-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v73)) (v1 : (c : Dev Cert.KernelIdeal.nD) → Buf (Elt Ideal) ((c.tc : Thread Cert.KernelIdeal.nD Cert.KernelIdeal.τ).loc Cert.KernelIdeal.main_v72_3)) (v2 : (c : Dev Cert.KernelIdeal.nD) → Buf (Elt Ideal) ((c.tc : Thread Cert.KernelIdeal.nD Cert.KernelIdeal.τ).loc Cert.KernelIdeal.main_v72_2)) (v3 : (c : Dev Cert.KernelIdeal.nD) → Buf (Elt Ideal) ((c.tc : Thread Cert.KernelIdeal.nD Cert.KernelIdeal.τ).loc Cert.KernelIdeal.main_v75)) (v4 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_v72_3) = v1 c
          ∧ r.2.mem ((c.tc : Thread Cert.KernelIdeal.nD Cert.KernelIdeal.τ).loc Cert.KernelIdeal.main_v72_2) = v2 c
          ∧ r.2.mem ((c.tc : Thread Cert.KernelIdeal.nD Cert.KernelIdeal.τ).loc Cert.KernelIdeal.main_v75) = v3 c
          ∧ r.2.mem ((c.tc : Thread Cert.KernelIdeal.nD Cert.KernelIdeal.τ).loc Cert.KernelIdeal.main_v74) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v3_3) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v8) = v3 c
          ∧ r.2.mem ((c.tc : Thread Cert.ReferenceIdeal.nD Cert.ReferenceIdeal.τ).loc Cert.ReferenceIdeal.main_v14) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S65536x256 : Shape := ⟨2, ![65536, 256]⟩
abbrev S8x1024x256 : Shape := ⟨3, ![8, 1024, 256]⟩
abbrev S_ : Shape := ⟨0, ![]⟩
abbrev S1x1024x256 : Shape := ⟨3, ![1, 1024, 256]⟩
abbrev S1024x256 : Shape := ⟨2, ![1024, 256]⟩
abbrev S65536 : Shape := ⟨1, ![65536]⟩
abbrev S65536x1 : Shape := ⟨2, ![65536, 1]⟩
abbrev S1024 : Shape := ⟨1, ![1024]⟩
abbrev S1x1024 : Shape := ⟨2, ![1, 1024]⟩
abbrev S256x1 : Shape := ⟨2, ![256, 1]⟩
abbrev S256x256 : Shape := ⟨2, ![256, 256]⟩
abbrev S256x1024 : Shape := ⟨2, ![256, 1024]⟩
abbrev S256x512 : Shape := ⟨2, ![256, 512]⟩
abbrev S256 : Shape := ⟨1, ![256]⟩
abbrev S1x1 : Shape := ⟨2, ![1, 1]⟩
abbrev S1x256x256 : Shape := ⟨3, ![1, 256, 256]⟩
abbrev S1 : Shape := ⟨1, ![1]⟩
abbrev S1x1x1 : Shape := ⟨3, ![1, 1, 1]⟩
abbrev S65536x8 : Shape := ⟨2, ![65536, 8]⟩
abbrev S8x1024 : Shape := ⟨2, ![8, 1024]⟩

abbrev nBuf : Space → Nat
  | .hbm => 120
  | .vmem => 122
  | .smem => 1
  | _ => 0

abbrev bufTy : (tb : Table) → Fin (tcTables nBuf tb) → BufTy
  | .hbm, ⟨0, _⟩ => ⟨S65536x256, .f32⟩
  | .hbm, ⟨1, _⟩ => ⟨S8x1024x256, .f32⟩
  | .hbm, ⟨2, _⟩ => ⟨S_, .f32⟩
  | .hbm, ⟨3, _⟩ => ⟨S65536x256, .f32⟩
  | .hbm, ⟨4, _⟩ => ⟨S1x1024x256, .f32⟩
  | .hbm, ⟨5, _⟩ => ⟨S1024x256, .f32⟩
  | .hbm, ⟨6, _⟩ => ⟨S65536x256, .f32⟩
  | .hbm, ⟨7, _⟩ => ⟨S_, .f32⟩
  | .hbm, ⟨8, _⟩ => ⟨S65536, .f32⟩
  | .hbm, ⟨9, _⟩ => ⟨S65536x1, .f32⟩
  | .hbm, ⟨10, _⟩ => ⟨S1024x256, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S65536x1, .i32⟩
  | .hbm, ⟨15, _⟩ => ⟨S1x1024, .f32⟩
  | .hbm, ⟨16, _⟩ => ⟨S65536x256, .f32⟩
  | .hbm, ⟨17, _⟩ => ⟨S65536x256, .f32⟩
  | .hbm, ⟨18, _⟩ => ⟨S1x1024x256, .f32⟩
  | .hbm, ⟨19, _⟩ => ⟨S1024x256, .f32⟩
  | .hbm, ⟨20, _⟩ => ⟨S65536x256, .f32⟩
  | .hbm, ⟨21, _⟩ => ⟨S_, .f32⟩
  | .hbm, ⟨22, _⟩ => ⟨S65536, .f32⟩
  | .hbm, ⟨23, _⟩ => ⟨S65536x1, .f32⟩
  | .hbm, ⟨24, _⟩ => ⟨S1024x256, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S65536x1, .i32⟩
  | .hbm, ⟨29, _⟩ => ⟨S1x1024, .f32⟩
  | .hbm, ⟨30, _⟩ => ⟨S65536x256, .f32⟩
  | .hbm, ⟨31, _⟩ => ⟨S65536x256, .f32⟩
  | .hbm, ⟨32, _⟩ => ⟨S1x1024x256, .f32⟩
  | .hbm, ⟨33, _⟩ => ⟨S1024x256, .f32⟩
  | .hbm, ⟨34, _⟩ => ⟨S65536x256, .f32⟩
  | .hbm, ⟨35, _⟩ => ⟨S_, .f32⟩
  | .hbm, ⟨36, _⟩ => ⟨S65536, .f32⟩
  | .hbm, ⟨37, _⟩ => ⟨S65536x1, .f32⟩
  | .hbm, ⟨38, _⟩ => ⟨S1024x256, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S65536x1, .i32⟩
  | .hbm, ⟨43, _⟩ => ⟨S1x1024, .f32⟩
  | .hbm, ⟨44, _⟩ => ⟨S65536x256, .f32⟩
  | .hbm, ⟨45, _⟩ => ⟨S65536x256, .f32⟩
  | .hbm, ⟨46, _⟩ => ⟨S1x1024x256, .f32⟩
  | .hbm, ⟨47, _⟩ => ⟨S1024x256, .f32⟩
  | .hbm, ⟨48, _⟩ => ⟨S65536x256, .f32⟩
  | .hbm, ⟨49, _⟩ => ⟨S_, .f32⟩
  | .hbm, ⟨50, _⟩ => ⟨S65536, .f32⟩
  | .hbm, ⟨51, _⟩ => ⟨S65536x1, .f32⟩
  | .hbm, ⟨52, _⟩ => ⟨S1024x256, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S65536x1, .i32⟩
  | .hbm, ⟨57, _⟩ => ⟨S1x1024, .f32⟩
  | .hbm, ⟨58, _⟩ => ⟨S65536x256, .f32⟩
  | .hbm, ⟨59, _⟩ => ⟨S65536x256, .f32⟩
  | .hbm, ⟨60, _⟩ => ⟨S1x1024x256, .f32⟩
  | .hbm, ⟨61, _⟩ => ⟨S1024x256, .f32⟩
  | .hbm, ⟨62, _⟩ => ⟨S65536x256, .f32⟩
  | .hbm, ⟨63, _⟩ => ⟨S_, .f32⟩
  | .hbm, ⟨64, _⟩ => ⟨S65536, .f32⟩
  | .hbm, ⟨65, _⟩ => ⟨S65536x1, .f32⟩
  | .hbm, ⟨66, _⟩ => ⟨S1024x256, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S65536x1, .i32⟩
  | .hbm, ⟨71, _⟩ => ⟨S1x1024, .f32⟩
  | .hbm, ⟨72, _⟩ => ⟨S65536x256, .f32⟩
  | .hbm, ⟨73, _⟩ => ⟨S65536x256, .f32⟩
  | .hbm, ⟨74, _⟩ => ⟨S1x1024x256, .f32⟩
  | .hbm, ⟨75, _⟩ => ⟨S1024x256, .f32⟩
  | .hbm, ⟨76, _⟩ => ⟨S65536x256, .f32⟩
  | .hbm, ⟨77, _⟩ => ⟨S_, .f32⟩
  | .hbm, ⟨78, _⟩ => ⟨S65536, .f32⟩
  | .hbm, ⟨79, _⟩ => ⟨S65536x1, .f32⟩
  | .hbm, ⟨80, _⟩ => ⟨S1024x256, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S65536x1, .i32⟩
  | .hbm, ⟨85, _⟩ => ⟨S1x1024, .f32⟩
  | .hbm, ⟨86, _⟩ => ⟨S65536x256, .f32⟩
  | .hbm, ⟨87, _⟩ => ⟨S65536x256, .f32⟩
  | .hbm, ⟨88, _⟩ => ⟨S1x1024x256, .f32⟩
  | .hbm, ⟨89, _⟩ => ⟨S1024x256, .f32⟩
  | .hbm, ⟨90, _⟩ => ⟨S65536x256, .f32⟩
  | .hbm, ⟨91, _⟩ => ⟨S_, .f32⟩
  | .hbm, ⟨92, _⟩ => ⟨S65536, .f32⟩
  | .hbm, ⟨93, _⟩ => ⟨S65536x1, .f32⟩
  | .hbm, ⟨94, _⟩ => ⟨S1024x256, .f32⟩
  | .hbm, ⟨95, _⟩ => ⟨S_, .f32⟩
  | .hbm, ⟨96, _⟩ => ⟨S1024, .f32⟩
  | .hbm, ⟨97, _⟩ => ⟨S1x1024, .f32⟩
  | .hbm, ⟨98, _⟩ => ⟨S65536x1, .i32⟩
  | .hbm, ⟨99, _⟩ => ⟨S1x1024, .f32⟩
  | .hbm, ⟨100, _⟩ => ⟨S65536x256, .f32⟩
  | .hbm, ⟨101, _⟩ => ⟨S65536x256, .f32⟩
  | .hbm, ⟨102, _⟩ => ⟨S1x1024x256, .f32⟩
  | .hbm, ⟨103, _⟩ => ⟨S1024x256, .f32⟩
  | .hbm, ⟨104, _⟩ => ⟨S65536x256, .f32⟩
  | .hbm, ⟨105, _⟩ => ⟨S_, .f32⟩
  | .hbm, ⟨106, _⟩ => ⟨S65536, .f32⟩
  | .hbm, ⟨107, _⟩ => ⟨S65536x1, .f32⟩
  | .hbm, ⟨108, _⟩ => ⟨S1024x256, .f32⟩
  | .hbm, ⟨109, _⟩ => ⟨S_, .f32⟩
  | .hbm, ⟨110, _⟩ => ⟨S1024, .f32⟩
  | .hbm, ⟨111, _⟩ => ⟨S1x1024, .f32⟩
  | .hbm, ⟨112, _⟩ => ⟨S65536x1, .i32⟩
  | .hbm, ⟨113, _⟩ => ⟨S1x1024, .f32⟩
  | .hbm, ⟨114, _⟩ => ⟨S65536x256, .f32⟩
  | .hbm, ⟨115, _⟩ => ⟨S65536x256, .f32⟩
  | .hbm, ⟨116, _⟩ => ⟨S1x1, .f32⟩
  | .hbm, ⟨117, _⟩ => ⟨S65536x8, .i32⟩
  | .hbm, ⟨118, _⟩ => ⟨S8x1024, .f32⟩
  | .hbm, ⟨119, _⟩ => ⟨S_, .f32⟩
  | .local _ .vmem, ⟨0, _⟩ => ⟨S256x1, .f32⟩
  | .local _ .vmem, ⟨1, _⟩ => ⟨S256x1, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S1024x256, .f32⟩
  | .local _ .vmem, ⟨7, _⟩ => ⟨S1x1024, .f32⟩
  | .local _ .vmem, ⟨8, _⟩ => ⟨S256x1, .i32⟩
  | .local _ .vmem, ⟨9, _⟩ => ⟨S256x1, .i32⟩
  | .local _ .vmem, ⟨10, _⟩ => ⟨S1x1024, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x1, .f32⟩
  | .local _ .vmem, ⟨16, _⟩ => ⟨S256x1, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S1024x256, .f32⟩
  | .local _ .vmem, ⟨22, _⟩ => ⟨S1x1024, .f32⟩
  | .local _ .vmem, ⟨23, _⟩ => ⟨S256x1, .i32⟩
  | .local _ .vmem, ⟨24, _⟩ => ⟨S256x1, .i32⟩
  | .local _ .vmem, ⟨25, _⟩ => ⟨S1x1024, .f32⟩
  | .local _ .vmem, ⟨26, _⟩ => ⟨S256x256, .f32⟩
  | .local _ .vmem, ⟨27, _⟩ => ⟨S256x256, .f32⟩
  | .local _ .vmem, ⟨28, _⟩ => ⟨S256x256, .f32⟩
  | .local _ .vmem, ⟨29, _⟩ => ⟨S256x256, .f32⟩
  | .local _ .vmem, ⟨30, _⟩ => ⟨S256x1, .f32⟩
  | .local _ .vmem, ⟨31, _⟩ => ⟨S256x1, .f32⟩
  | .local _ .vmem, ⟨32, _⟩ => ⟨S256x256, .f32⟩
  | .local _ .vmem, ⟨33, _⟩ => ⟨S256x256, .f32⟩
  | .local _ .vmem, ⟨34, _⟩ => ⟨S256x256, .f32⟩
  | .local _ .vmem, ⟨35, _⟩ => ⟨S256x256, .f32⟩
  | .local _ .vmem, ⟨36, _⟩ => ⟨S1024x256, .f32⟩
  | .local _ .vmem, ⟨37, _⟩ => ⟨S1x1024, .f32⟩
  | .local _ .vmem, ⟨38, _⟩ => ⟨S256x1, .i32⟩
  | .local _ .vmem, ⟨39, _⟩ => ⟨S256x1, .i32⟩
  | .local _ .vmem, ⟨40, _⟩ => ⟨S1x1024, .f32⟩
  | .local _ .vmem, ⟨41, _⟩ => ⟨S256x256, .f32⟩
  | .local _ .vmem, ⟨42, _⟩ => ⟨S256x256, .f32⟩
  | .local _ .vmem, ⟨43, _⟩ => ⟨S256x256, .f32⟩
  | .local _ .vmem, ⟨44, _⟩ => ⟨S256x256, .f32⟩
  | .local _ .vmem, ⟨45, _⟩ => ⟨S256x1, .f32⟩
  | .local _ .vmem, ⟨46, _⟩ => ⟨S256x1, .f32⟩
  | .local _ .vmem, ⟨47, _⟩ => ⟨S256x256, .f32⟩
  | .local _ .vmem, ⟨48, _⟩ => ⟨S256x256, .f32⟩
  | .local _ .vmem, ⟨49, _⟩ => ⟨S256x256, .f32⟩
  | .local _ .vmem, ⟨50, _⟩ => ⟨S256x256, .f32⟩
  | .local _ .vmem, ⟨51, _⟩ => ⟨S1024x256, .f32⟩
  | .local _ .vmem, ⟨52, _⟩ => ⟨S1x1024, .f32⟩
  | .local _ .vmem, ⟨53, _⟩ => ⟨S256x1, .i32⟩
  | .local _ .vmem, ⟨54, _⟩ => ⟨S256x1, .i32⟩
  | .local _ .vmem, ⟨55, _⟩ => ⟨S1x1024, .f32⟩
  | .local _ .vmem, ⟨56, _⟩ => ⟨S256x256, .f32⟩
  | .local _ .vmem, ⟨57, _⟩ => ⟨S256x256, .f32⟩
  | .local _ .vmem, ⟨58, _⟩ => ⟨S256x256, .f32⟩
  | .local _ .vmem, ⟨59, _⟩ => ⟨S256x256, .f32⟩
  | .local _ .vmem, ⟨60, _⟩ => ⟨S256x1, .f32⟩
  | .local _ .vmem, ⟨61, _⟩ => ⟨S256x1, .f32⟩
  | .local _ .vmem, ⟨62, _⟩ => ⟨S256x256, .f32⟩
  | .local _ .vmem, ⟨63, _⟩ => ⟨S256x256, .f32⟩
  | .local _ .vmem, ⟨64, _⟩ => ⟨S256x256, .f32⟩
  | .local _ .vmem, ⟨65, _⟩ => ⟨S256x256, .f32⟩
  | .local _ .vmem, ⟨66, _⟩ => ⟨S1024x256, .f32⟩
  | .local _ .vmem, ⟨67, _⟩ => ⟨S1x1024, .f32⟩
  | .local _ .vmem, ⟨68, _⟩ => ⟨S256x1, .i32⟩
  | .local _ .vmem, ⟨69, _⟩ => ⟨S256x1, .i32⟩
  | .local _ .vmem, ⟨70, _⟩ => ⟨S1x1024, .f32⟩
  | .local _ .vmem, ⟨71, _⟩ => ⟨S256x256, .f32⟩
  | .local _ .vmem, ⟨72, _⟩ => ⟨S256x256, .f32⟩
  | .local _ .vmem, ⟨73, _⟩ => ⟨S256x256, .f32⟩
  | .local _ .vmem, ⟨74, _⟩ => ⟨S256x256, .f32⟩
  | .local _ .vmem, ⟨75, _⟩ => ⟨S256x1, .f32⟩
  | .local _ .vmem, ⟨76, _⟩ => ⟨S256x1, .f32⟩
  | .local _ .vmem, ⟨77, _⟩ => ⟨S256x256, .f32⟩
  | .local _ .vmem, ⟨78, _⟩ => ⟨S256x256, .f32⟩
  | .local _ .vmem, ⟨79, _⟩ => ⟨S256x256, .f32⟩
  | .local _ .vmem, ⟨80, _⟩ => ⟨S256x256, .f32⟩
  | .local _ .vmem, ⟨81, _⟩ => ⟨S1024x256, .f32⟩
  | .local _ .vmem, ⟨82, _⟩ => ⟨S1x1024, .f32⟩
  | .local _ .vmem, ⟨83, _⟩ => ⟨S256x1, .i32⟩
  | .local _ .vmem, ⟨84, _⟩ => ⟨S256x1, .i32⟩
  | .local _ .vmem, ⟨85, _⟩ => ⟨S1x1024, .f32⟩
  | .local _ .vmem, ⟨86, _⟩ => ⟨S256x256, .f32⟩
  | .local _ .vmem, ⟨87, _⟩ => ⟨S256x256, .f32⟩
  | .local _ .vmem, ⟨88, _⟩ => ⟨S256x256, .f32⟩
  | .local _ .vmem, ⟨89, _⟩ => ⟨S256x256, .f32⟩
  | .local _ .vmem, ⟨90, _⟩ => ⟨S256x1, .f32⟩
  | .local _ .vmem, ⟨91, _⟩ => ⟨S256x1, .f32⟩
  | .local _ .vmem, ⟨92, _⟩ => ⟨S256x256, .f32⟩
  | .local _ .vmem, ⟨93, _⟩ => ⟨S256x256, .f32⟩
  | .local _ .vmem, ⟨94, _⟩ => ⟨S256x256, .f32⟩
  | .local _ .vmem, ⟨95, _⟩ => ⟨S256x256, .f32⟩
  | .local _ .vmem, ⟨96, _⟩ => ⟨S1024x256, .f32⟩
  | .local _ .vmem, ⟨97, _⟩ => ⟨S1x1024, .f32⟩
  | .local _ .vmem, ⟨98, _⟩ => ⟨S256x1, .i32⟩
  | .local _ .vmem, ⟨99, _⟩ => ⟨S256x1, .i32⟩
  | .local _ .vmem, ⟨100, _⟩ => ⟨S1x1024, .f32⟩
  | .local _ .vmem, ⟨101, _⟩ => ⟨S256x256, .f32⟩
  | .local _ .vmem, ⟨102, _⟩ => ⟨S256x256, .f32⟩
  | .local _ .vmem, ⟨103, _⟩ => ⟨S256x256, .f32⟩
  | .local _ .vmem, ⟨104, _⟩ => ⟨S256x256, .f32⟩
  | .local _ .vmem, ⟨105, _⟩ => ⟨S256x1, .f32⟩
  | .local _ .vmem, ⟨106, _⟩ => ⟨S256x1, .f32⟩
  | .local _ .vmem, ⟨107, _⟩ => ⟨S256x256, .f32⟩
  | .local _ .vmem, ⟨108, _⟩ => ⟨S256x256, .f32⟩
  | .local _ .vmem, ⟨109, _⟩ => ⟨S256x256, .f32⟩
  | .local _ .vmem, ⟨110, _⟩ => ⟨S256x256, .f32⟩
  | .local _ .vmem, ⟨111, _⟩ => ⟨S1024x256, .f32⟩
  | .local _ .vmem, ⟨112, _⟩ => ⟨S1x1024, .f32⟩
  | .local _ .vmem, ⟨113, _⟩ => ⟨S256x256, .f32⟩
  | .local _ .vmem, ⟨114, _⟩ => ⟨S256x256, .f32⟩
  | .local _ .vmem, ⟨115, _⟩ => ⟨S256x1, .i32⟩
  | .local _ .vmem, ⟨116, _⟩ => ⟨S256x1, .i32⟩
  | .local _ .vmem, ⟨117, _⟩ => ⟨S1x1024, .f32⟩
  | .local _ .vmem, ⟨118, _⟩ => ⟨S256x256, .f32⟩
  | .local _ .vmem, ⟨119, _⟩ => ⟨S256x256, .f32⟩
  | .local _ .vmem, ⟨120, _⟩ => ⟨S256x256, .f32⟩
  | .local _ .vmem, ⟨121, _⟩ => ⟨S256x256, .f32⟩
  | .local _ .smem, ⟨0, _⟩ => ⟨S1x1, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .smem, ⟨0, _⟩ => true
  | _, _ => false

abbrev semScoped : Fin 0 → Bool
  | ⟨_, h⟩ => absurd h (Nat.not_lt_zero _)

abbrev dmaSemScoped : Fin 123 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | _ => false

abbrev sig : RefSig :=
  ofTc nBuf bufTy 0 123 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev main_v18_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27_0 : Ref sig .tc := ⟨.hbm, 42, rfl⟩
abbrev main_v27_1 : Ref sig .tc := ⟨.hbm, 43, rfl⟩
abbrev main_v27_2 : Ref sig .tc := ⟨.hbm, 44, rfl⟩
abbrev main_v27_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36_0 : Ref sig .tc := ⟨.hbm, 56, rfl⟩
abbrev main_v36_1 : Ref sig .tc := ⟨.hbm, 57, rfl⟩
abbrev main_v36_2 : Ref sig .tc := ⟨.hbm, 58, rfl⟩
abbrev main_v36_3 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45_0 : Ref sig .tc := ⟨.hbm, 70, rfl⟩
abbrev main_v45_1 : Ref sig .tc := ⟨.hbm, 71, rfl⟩
abbrev main_v45_2 : Ref sig .tc := ⟨.hbm, 72, rfl⟩
abbrev main_v45_3 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_10 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_11 : Ref sig .tc := ⟨.hbm, 81, rfl⟩
abbrev main_v52 : Ref sig .tc := ⟨.hbm, 82, rfl⟩
abbrev main_v53 : Ref sig .tc := ⟨.hbm, 83, rfl⟩
abbrev main_v54_0 : Ref sig .tc := ⟨.hbm, 84, rfl⟩
abbrev main_v54_1 : Ref sig .tc := ⟨.hbm, 85, rfl⟩
abbrev main_v54_2 : Ref sig .tc := ⟨.hbm, 86, rfl⟩
abbrev main_v54_3 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_12 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_13 : Ref sig .tc := ⟨.hbm, 95, rfl⟩
abbrev main_v61 : Ref sig .tc := ⟨.hbm, 96, rfl⟩
abbrev main_v62 : Ref sig .tc := ⟨.hbm, 97, rfl⟩
abbrev main_v63_0 : Ref sig .tc := ⟨.hbm, 98, rfl⟩
abbrev main_v63_1 : Ref sig .tc := ⟨.hbm, 99, rfl⟩
abbrev main_v63_2 : Ref sig .tc := ⟨.hbm, 100, rfl⟩
abbrev main_v63_3 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_14 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_15 : Ref sig .tc := ⟨.hbm, 109, rfl⟩
abbrev main_v70 : Ref sig .tc := ⟨.hbm, 110, rfl⟩
abbrev main_v71 : Ref sig .tc := ⟨.hbm, 111, rfl⟩
abbrev main_v72_0 : Ref sig .tc := ⟨.hbm, 112, rfl⟩
abbrev main_v72_1 : Ref sig .tc := ⟨.hbm, 113, rfl⟩
abbrev main_v72_2 : Ref sig .tc := ⟨.hbm, 114, rfl⟩
abbrev main_v72_3 : Ref sig .tc := ⟨.hbm, 115, rfl⟩
abbrev main_v72_4 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg4_0 : Ref sig .tc := ⟨.vmem, 37, rfl⟩
abbrev cc2_stg5_0 : Ref sig .tc := ⟨.vmem, 38, rfl⟩
abbrev cc2_stg5_1 : Ref sig .tc := ⟨.vmem, 39, rfl⟩
abbrev cc2_stg6_0 : Ref sig .tc := ⟨.vmem, 40, rfl⟩
abbrev cc2_stg7_0 : Ref sig .tc := ⟨.vmem, 41, rfl⟩
abbrev cc2_stg7_1 : Ref sig .tc := ⟨.vmem, 42, rfl⟩
abbrev cc2_stg8_0 : Ref sig .tc := ⟨.vmem, 43, rfl⟩
abbrev cc2_stg8_1 : Ref sig .tc := ⟨.vmem, 44, rfl⟩
abbrev cc3_stg0_0 : Ref sig .tc := ⟨.vmem, 45, rfl⟩
abbrev cc3_stg0_1 : Ref sig .tc := ⟨.vmem, 46, rfl⟩
abbrev cc3_stg1_0 : Ref sig .tc := ⟨.vmem, 47, rfl⟩
abbrev cc3_stg1_1 : Ref sig .tc := ⟨.vmem, 48, rfl⟩
abbrev cc3_stg2_0 : Ref sig .tc := ⟨.vmem, 49, rfl⟩
abbrev cc3_stg2_1 : Ref sig .tc := ⟨.vmem, 50, rfl⟩
abbrev cc3_stg3_0 : Ref sig .tc := ⟨.vmem, 51, rfl⟩
abbrev cc3_stg4_0 : Ref sig .tc := ⟨.vmem, 52, rfl⟩
abbrev cc3_stg5_0 : Ref sig .tc := ⟨.vmem, 53, rfl⟩
abbrev cc3_stg5_1 : Ref sig .tc := ⟨.vmem, 54, rfl⟩
abbrev cc3_stg6_0 : Ref sig .tc := ⟨.vmem, 55, rfl⟩
abbrev cc3_stg7_0 : Ref sig .tc := ⟨.vmem, 56, rfl⟩
abbrev cc3_stg7_1 : Ref sig .tc := ⟨.vmem, 57, rfl⟩
abbrev cc3_stg8_0 : Ref sig .tc := ⟨.vmem, 58, rfl⟩
abbrev cc3_stg8_1 : Ref sig .tc := ⟨.vmem, 59, rfl⟩
abbrev cc4_stg0_0 : Ref sig .tc := ⟨.vmem, 60, rfl⟩
abbrev cc4_stg0_1 : Ref sig .tc := ⟨.vmem, 61, rfl⟩
abbrev cc4_stg1_0 : Ref sig .tc := ⟨.vmem, 62, rfl⟩
abbrev cc4_stg1_1 : Ref sig .tc := ⟨.vmem, 63, rfl⟩
abbrev cc4_stg2_0 : Ref sig .tc := ⟨.vmem, 64, rfl⟩
abbrev cc4_stg2_1 : Ref sig .tc := ⟨.vmem, 65, rfl⟩
abbrev cc4_stg3_0 : Ref sig .tc := ⟨.vmem, 66, rfl⟩
abbrev cc4_stg4_0 : Ref sig .tc := ⟨.vmem, 67, rfl⟩
abbrev cc4_stg5_0 : Ref sig .tc := ⟨.vmem, 68, rfl⟩
abbrev cc4_stg5_1 : Ref sig .tc := ⟨.vmem, 69, rfl⟩
abbrev cc4_stg6_0 : Ref sig .tc := ⟨.vmem, 70, rfl⟩
abbrev cc4_stg7_0 : Ref sig .tc := ⟨.vmem, 71, rfl⟩
abbrev cc4_stg7_1 : Ref sig .tc := ⟨.vmem, 72, rfl⟩
abbrev cc4_stg8_0 : Ref sig .tc := ⟨.vmem, 73, rfl⟩
abbrev cc4_stg8_1 : Ref sig .tc := ⟨.vmem, 74, rfl⟩
abbrev cc5_stg0_0 : Ref sig .tc := ⟨.vmem, 75, rfl⟩
abbrev cc5_stg0_1 : Ref sig .tc := ⟨.vmem, 76, rfl⟩
abbrev cc5_stg1_0 : Ref sig .tc := ⟨.vmem, 77, rfl⟩
abbrev cc5_stg1_1 : Ref sig .tc := ⟨.vmem, 78, rfl⟩
abbrev cc5_stg2_0 : Ref sig .tc := ⟨.vmem, 79, rfl⟩
abbrev cc5_stg2_1 : Ref sig .tc := ⟨.vmem, 80, rfl⟩
abbrev cc5_stg3_0 : Ref sig .tc := ⟨.vmem, 81, rfl⟩
abbrev cc5_stg4_0 : Ref sig .tc := ⟨.vmem, 82, rfl⟩
abbrev cc5_stg5_0 : Ref sig .tc := ⟨.vmem, 83, rfl⟩
abbrev cc5_stg5_1 : Ref sig .tc := ⟨.vmem, 84, rfl⟩
abbrev cc5_stg6_0 : Ref sig .tc := ⟨.vmem, 85, rfl⟩
abbrev cc5_stg7_0 : Ref sig .tc := ⟨.vmem, 86, rfl⟩
abbrev cc5_stg7_1 : Ref sig .tc := ⟨.vmem, 87, rfl⟩
abbrev cc5_stg8_0 : Ref sig .tc := ⟨.vmem, 88, rfl⟩
abbrev cc5_stg8_1 : Ref sig .tc := ⟨.vmem, 89, rfl⟩
abbrev cc6_stg0_0 : Ref sig .tc := ⟨.vmem, 90, rfl⟩
abbrev cc6_stg0_1 : Ref sig .tc := ⟨.vmem, 91, rfl⟩
abbrev cc6_stg1_0 : Ref sig .tc := ⟨.vmem, 92, rfl⟩
abbrev cc6_stg1_1 : Ref sig .tc := ⟨.vmem, 93, rfl⟩
abbrev cc6_stg2_0 : Ref sig .tc := ⟨.vmem, 94, rfl⟩
abbrev cc6_stg2_1 : Ref sig .tc := ⟨.vmem, 95, rfl⟩
abbrev cc6_stg3_0 : Ref sig .tc := ⟨.vmem, 96, rfl⟩
abbrev cc6_stg4_0 : Ref sig .tc := ⟨.vmem, 97, rfl⟩
abbrev cc6_stg5_0 : Ref sig .tc := ⟨.vmem, 98, rfl⟩
abbrev cc6_stg5_1 : Ref sig .tc := ⟨.vmem, 99, rfl⟩
abbrev cc6_stg6_0 : Ref sig .tc := ⟨.vmem, 100, rfl⟩
abbrev cc6_stg7_0 : Ref sig .tc := ⟨.vmem, 101, rfl⟩
abbrev cc6_stg7_1 : Ref sig .tc := ⟨.vmem, 102, rfl⟩
abbrev cc6_stg8_0 : Ref sig .tc := ⟨.vmem, 103, rfl⟩
abbrev cc6_stg8_1 : Ref sig .tc := ⟨.vmem, 104, rfl⟩
abbrev cc7_stg0_0 : Ref sig .tc := ⟨.vmem, 105, rfl⟩
abbrev cc7_stg0_1 : Ref sig .tc := ⟨.vmem, 106, rfl⟩
abbrev cc7_stg1_0 : Ref sig .tc := ⟨.vmem, 107, rfl⟩
abbrev cc7_stg1_1 : Ref sig .tc := ⟨.vmem, 108, rfl⟩
abbrev cc7_stg2_0 : Ref sig .tc := ⟨.vmem, 109, rfl⟩
abbrev cc7_stg2_1 : Ref sig .tc := ⟨.vmem, 110, rfl⟩
abbrev cc7_stg3_0 : Ref sig .tc := ⟨.vmem, 111, rfl⟩
abbrev cc7_stg4_0 : Ref sig .tc := ⟨.vmem, 112, rfl⟩
abbrev cc7_stg5_0 : Ref sig .tc := ⟨.vmem, 113, rfl⟩
abbrev cc7_stg5_1 : Ref sig .tc := ⟨.vmem, 114, rfl⟩
abbrev cc7_stg6_0 : Ref sig .tc := ⟨.vmem, 115, rfl⟩
abbrev cc7_stg6_1 : Ref sig .tc := ⟨.vmem, 116, rfl⟩
abbrev cc7_stg7_0 : Ref sig .tc := ⟨.vmem, 117, rfl⟩
abbrev cc7_stg8_0 : Ref sig .tc := ⟨.vmem, 118, rfl⟩
abbrev cc7_stg8_1 : Ref sig .tc := ⟨.vmem, 119, rfl⟩
abbrev cc7_stg9_0 : Ref sig .tc := ⟨.vmem, 120, rfl⟩
abbrev cc7_stg9_1 : Ref sig .tc := ⟨.vmem, 121, rfl⟩
abbrev cc7_stg10_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem5_1 : DmaSem sig := 24
abbrev cc1_sem6_0 : DmaSem sig := 25
abbrev cc1_sem7_0 : DmaSem sig := 26
abbrev cc1_sem7_1 : DmaSem sig := 27
abbrev cc1_sem8_0 : DmaSem sig := 28
abbrev cc1_sem8_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem4_0 : DmaSem sig := 37
abbrev cc2_sem5_0 : DmaSem sig := 38
abbrev cc2_sem5_1 : DmaSem sig := 39
abbrev cc2_sem6_0 : DmaSem sig := 40
abbrev cc2_sem7_0 : DmaSem sig := 41
abbrev cc2_sem7_1 : DmaSem sig := 42
abbrev cc2_sem8_0 : DmaSem sig := 43
abbrev cc2_sem8_1 : DmaSem sig := 44
abbrev cc3_sem0_0 : DmaSem sig := 45
abbrev cc3_sem0_1 : DmaSem sig := 46
abbrev cc3_sem1_0 : DmaSem sig := 47
abbrev cc3_sem1_1 : DmaSem sig := 48
abbrev cc3_sem2_0 : DmaSem sig := 49
abbrev cc3_sem2_1 : DmaSem sig := 50
abbrev cc3_sem3_0 : DmaSem sig := 51
abbrev cc3_sem4_0 : DmaSem sig := 52
abbrev cc3_sem5_0 : DmaSem sig := 53
abbrev cc3_sem5_1 : DmaSem sig := 54
abbrev cc3_sem6_0 : DmaSem sig := 55
abbrev cc3_sem7_0 : DmaSem sig := 56
abbrev cc3_sem7_1 : DmaSem sig := 57
abbrev cc3_sem8_0 : DmaSem sig := 58
abbrev cc3_sem8_1 : DmaSem sig := 59
abbrev cc4_sem0_0 : DmaSem sig := 60
abbrev cc4_sem0_1 : DmaSem sig := 61
abbrev cc4_sem1_0 : DmaSem sig := 62
abbrev cc4_sem1_1 : DmaSem sig := 63
abbrev cc4_sem2_0 : DmaSem sig := 64
abbrev cc4_sem2_1 : DmaSem sig := 65
abbrev cc4_sem3_0 : DmaSem sig := 66
abbrev cc4_sem4_0 : DmaSem sig := 67
abbrev cc4_sem5_0 : DmaSem sig := 68
abbrev cc4_sem5_1 : DmaSem sig := 69
abbrev cc4_sem6_0 : DmaSem sig := 70
abbrev cc4_sem7_0 : DmaSem sig := 71
abbrev cc4_sem7_1 : DmaSem sig := 72
abbrev cc4_sem8_0 : DmaSem sig := 73
abbrev cc4_sem8_1 : DmaSem sig := 74
abbrev cc5_sem0_0 : DmaSem sig := 75
abbrev cc5_sem0_1 : DmaSem sig := 76
abbrev cc5_sem1_0 : DmaSem sig := 77
abbrev cc5_sem1_1 : DmaSem sig := 78
abbrev cc5_sem2_0 : DmaSem sig := 79
abbrev cc5_sem2_1 : DmaSem sig := 80
abbrev cc5_sem3_0 : DmaSem sig := 81
abbrev cc5_sem4_0 : DmaSem sig := 82
abbrev cc5_sem5_0 : DmaSem sig := 83
abbrev cc5_sem5_1 : DmaSem sig := 84
abbrev cc5_sem6_0 : DmaSem sig := 85
abbrev cc5_sem7_0 : DmaSem sig := 86
abbrev cc5_sem7_1 : DmaSem sig := 87
abbrev cc5_sem8_0 : DmaSem sig := 88
abbrev cc5_sem8_1 : DmaSem sig := 89
abbrev cc6_sem0_0 : DmaSem sig := 90
abbrev cc6_sem0_1 : DmaSem sig := 91
abbrev cc6_sem1_0 : DmaSem sig := 92
abbrev cc6_sem1_1 : DmaSem sig := 93
abbrev cc6_sem2_0 : DmaSem sig := 94
abbrev cc6_sem2_1 : DmaSem sig := 95
abbrev cc6_sem3_0 : DmaSem sig := 96
abbrev cc6_sem4_0 : DmaSem sig := 97
abbrev cc6_sem5_0 : DmaSem sig := 98
abbrev cc6_sem5_1 : DmaSem sig := 99
abbrev cc6_sem6_0 : DmaSem sig := 100
abbrev cc6_sem7_0 : DmaSem sig := 101
abbrev cc6_sem7_1 : DmaSem sig := 102
abbrev cc6_sem8_0 : DmaSem sig := 103
abbrev cc6_sem8_1 : DmaSem sig := 104
abbrev cc7_sem0_0 : DmaSem sig := 105
abbrev cc7_sem0_1 : DmaSem sig := 106
abbrev cc7_sem1_0 : DmaSem sig := 107
abbrev cc7_sem1_1 : DmaSem sig := 108
abbrev cc7_sem2_0 : DmaSem sig := 109
abbrev cc7_sem2_1 : DmaSem sig := 110
abbrev cc7_sem3_0 : DmaSem sig := 111
abbrev cc7_sem4_0 : DmaSem sig := 112
abbrev cc7_sem5_0 : DmaSem sig := 113
abbrev cc7_sem5_1 : DmaSem sig := 114
abbrev cc7_sem6_0 : DmaSem sig := 115
abbrev cc7_sem6_1 : DmaSem sig := 116
abbrev cc7_sem7_0 : DmaSem sig := 117
abbrev cc7_sem8_0 : DmaSem sig := 118
abbrev cc7_sem8_1 : DmaSem sig := 119
abbrev cc7_sem9_0 : DmaSem sig := 120
abbrev cc7_sem9_1 : DmaSem sig := 121
abbrev cc7_sem10_0 : DmaSem sig := 122

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![256], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x1 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![256], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1024x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x1 .i32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S256x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S256x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![256], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1024x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S256x1 .i32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S1x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S256x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S256x256 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![256], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1024x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S256x1 .i32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x1024 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S256x256 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S256x256 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![256], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S256x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S256x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1024x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1024 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S256x1 .i32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S1x1024 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S256x256 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S256x256 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨1, ![256], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x1 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S256x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S256x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1024x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1024 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S256x1 .i32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S1x1024 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S256x256 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S256x256 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨1, ![256], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_9 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_10 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S256x1 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S256x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S256x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1024x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x1024 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S256x256 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S256x1 .i32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 1 → Memref sig .tc .vmem S1x1024 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 2 → Memref sig .tc .vmem S256x256 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

abbrev stage7_9 : Fin 2 → Memref sig .tc .vmem S256x256 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true]

abbrev stage7_10 : Fin 1 → Memref sig .tc .smem S1x1 .f32 := fun | 0 => Memref.whole cc7_stg10_0 | ⟨_ + 1, h⟩ => absurd h (Nat.not_lt.2 (Nat.le_add_left _ _))
abbrev sem7_10 : Fin 1 → DmaSem sig := fun | 0 => cc7_sem10_0 | ⟨_ + 1, h⟩ => absurd h (Nat.not_lt.2 (Nat.le_add_left _ _))
abbrev reads7_10 : Fin grid7.rank → Bool := ![false]
-- ==== ReferenceIdeal.lean ====
abbrev S65536x256 : Shape := ⟨2, ![65536, 256]⟩
abbrev S8x1024x256 : Shape := ⟨3, ![8, 1024, 256]⟩
abbrev S_ : Shape := ⟨0, ![]⟩
abbrev S8x65536 : Shape := ⟨2, ![8, 65536]⟩
abbrev S8x1024 : Shape := ⟨2, ![8, 1024]⟩
abbrev S1x1024x256 : Shape := ⟨3, ![1, 1024, 256]⟩
abbrev S1024x256 : Shape := ⟨2, ![1024, 256]⟩
abbrev S65536 : Shape := ⟨1, ![65536]⟩
abbrev S65536x1 : Shape := ⟨2, ![65536, 1]⟩
abbrev S1024 : Shape := ⟨1, ![1024]⟩
abbrev S1x1024 : Shape := ⟨2, ![1, 1024]⟩
abbrev S65536x1024 : Shape := ⟨2, ![65536, 1024]⟩
abbrev S256x1024 : Shape := ⟨2, ![256, 1024]⟩
abbrev S1x65536 : Shape := ⟨2, ![1, 65536]⟩
abbrev S65536x8 : Shape := ⟨2, ![65536, 8]⟩
abbrev S8 : Shape := ⟨1, ![8]⟩
abbrev S8x1 : Shape := ⟨2, ![8, 1]⟩

abbrev nBuf : Space → Nat
  | .hbm => 96
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S8x1024x256, .f32⟩
  | .hbm, ⟨2, _⟩ => ⟨S_, .f32⟩
  | .hbm, ⟨3, _⟩ => ⟨S65536x256, .f32⟩
  | .hbm, ⟨4, _⟩ => ⟨S_, .i32⟩
  | .hbm, ⟨5, _⟩ => ⟨S8x65536, .i32⟩
  | .hbm, ⟨6, _⟩ => ⟨S_, .i32⟩
  | .hbm, ⟨7, _⟩ => ⟨S8x1024, .i32⟩
  | .hbm, ⟨8, _⟩ => ⟨S_, .i32⟩
  | .hbm, ⟨9, _⟩ => ⟨S8x1024x256, .f32⟩
  | .hbm, ⟨10, _⟩ => ⟨S_, .i32⟩
  | .hbm, ⟨11, _⟩ => ⟨S65536x256, .f32⟩
  | .hbm, ⟨12, _⟩ => ⟨S65536x256, .f32⟩
  | .hbm, ⟨13, _⟩ => ⟨S8x65536, .i32⟩
  | .hbm, ⟨14, _⟩ => ⟨S8x1024, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S1x1024x256, .f32⟩
  | .hbm, ⟨20, _⟩ => ⟨S1024x256, .f32⟩
  | .hbm, ⟨21, _⟩ => ⟨S65536x256, .f32⟩
  | .hbm, ⟨22, _⟩ => ⟨S_, .f32⟩
  | .hbm, ⟨23, _⟩ => ⟨S65536, .f32⟩
  | .hbm, ⟨24, _⟩ => ⟨S65536x1, .f32⟩
  | .hbm, ⟨25, _⟩ => ⟨S1024x256, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S256x1024, .f32⟩
  | .hbm, ⟨33, _⟩ => ⟨S65536x1024, .f32⟩
  | .hbm, ⟨34, _⟩ => ⟨S_, .f32⟩
  | .hbm, ⟨35, _⟩ => ⟨S65536x1024, .f32⟩
  | .hbm, ⟨36, _⟩ => ⟨S65536x1024, .f32⟩
  | .hbm, ⟨37, _⟩ => ⟨S65536x1024, .f32⟩
  | .hbm, ⟨38, _⟩ => ⟨S65536x1024, .i32⟩
  | .hbm, ⟨39, _⟩ => ⟨S_, .f32⟩
  | .hbm, ⟨40, _⟩ => ⟨S_, .i32⟩
  | .hbm, ⟨41, _⟩ => ⟨S65536, .f32⟩
  | .hbm, ⟨42, _⟩ => ⟨S65536, .i32⟩
  | .hbm, ⟨43, _⟩ => ⟨S_, .i32⟩
  | .hbm, ⟨44, _⟩ => ⟨S65536, .i32⟩
  | .hbm, ⟨45, _⟩ => ⟨S65536, .i1⟩
  | .hbm, ⟨46, _⟩ => ⟨S_, .i32⟩
  | .hbm, ⟨47, _⟩ => ⟨S65536, .i32⟩
  | .hbm, ⟨48, _⟩ => ⟨S65536, .i32⟩
  | .hbm, ⟨49, _⟩ => ⟨S65536, .i32⟩
  | .hbm, ⟨50, _⟩ => ⟨S65536x1, .i32⟩
  | .hbm, ⟨51, _⟩ => ⟨S65536x256, .f32⟩
  | .hbm, ⟨52, _⟩ => ⟨S65536x256, .f32⟩
  | .hbm, ⟨53, _⟩ => ⟨S65536x256, .f32⟩
  | .hbm, ⟨54, _⟩ => ⟨S_, .i32⟩
  | .hbm, ⟨55, _⟩ => ⟨S1024, .i32⟩
  | .hbm, ⟨56, _⟩ => ⟨S_, .i32⟩
  | .hbm, ⟨57, _⟩ => ⟨S_, .i32⟩
  | .hbm, ⟨58, _⟩ => ⟨S65536, .i32⟩
  | .hbm, ⟨59, _⟩ => ⟨S65536, .i32⟩
  | .hbm, ⟨60, _⟩ => ⟨S_, .i32⟩
  | .hbm, ⟨61, _⟩ => ⟨S65536, .i32⟩
  | .hbm, ⟨62, _⟩ => ⟨S65536, .i1⟩
  | .hbm, ⟨63, _⟩ => ⟨S_, .i32⟩
  | .hbm, ⟨64, _⟩ => ⟨S65536, .i32⟩
  | .hbm, ⟨65, _⟩ => ⟨S65536, .i32⟩
  | .hbm, ⟨66, _⟩ => ⟨S65536, .i32⟩
  | .hbm, ⟨67, _⟩ => ⟨S65536x1, .i32⟩
  | .hbm, ⟨68, _⟩ => ⟨S_, .i32⟩
  | .hbm, ⟨69, _⟩ => ⟨S65536, .i32⟩
  | .hbm, ⟨70, _⟩ => ⟨S1024, .i32⟩
  | .hbm, ⟨71, _⟩ => ⟨S1x65536, .i32⟩
  | .hbm, ⟨72, _⟩ => ⟨S_, .i32⟩
  | .hbm, ⟨73, _⟩ => ⟨S8x65536, .i32⟩
  | .hbm, ⟨74, _⟩ => ⟨S1x1024, .i32⟩
  | .hbm, ⟨75, _⟩ => ⟨S_, .i32⟩
  | .hbm, ⟨76, _⟩ => ⟨S8x1024, .i32⟩
  | .hbm, ⟨77, _⟩ => ⟨S_, .i32⟩
  | .hbm, ⟨78, _⟩ => ⟨S_, .i32⟩
  | .hbm, ⟨79, _⟩ => ⟨S65536x8, .i32⟩
  | .hbm, ⟨80, _⟩ => ⟨S65536x256, .f32⟩
  | .hbm, ⟨81, _⟩ => ⟨S65536x256, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S8x1024, .f32⟩
  | .hbm, ⟨87, _⟩ => ⟨S_, .f32⟩
  | .hbm, ⟨88, _⟩ => ⟨S8, .f32⟩
  | .hbm, ⟨89, _⟩ => ⟨S8x1, .f32⟩
  | .hbm, ⟨90, _⟩ => ⟨S_, .f32⟩
  | .hbm, ⟨91, _⟩ => ⟨S_, .f32⟩
  | .hbm, ⟨92, _⟩ => ⟨S8x1, .f32⟩
  | .hbm, ⟨93, _⟩ => ⟨S8x1, .f32⟩
  | .hbm, ⟨94, _⟩ => ⟨S8x1024, .f32⟩
  | .hbm, ⟨95, _⟩ => ⟨S8x1024, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_c_1 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_while0c_c_11 : Ref sig .tc := ⟨.hbm, 15, rfl⟩
abbrev main_while0c_v15 : Ref sig .tc := ⟨.hbm, 16, rfl⟩
abbrev main_while0b_call0_c : Ref sig .tc := ⟨.hbm, 17, rfl⟩
abbrev main_while0b_call0_c_0 : Ref sig .tc := ⟨.hbm, 18, rfl⟩
abbrev main_while0b_call0_v0 : Ref sig .tc := ⟨.hbm, 19, rfl⟩
abbrev main_while0b_v15 : Ref sig .tc := ⟨.hbm, 20, rfl⟩
abbrev main_while0b_v16 : Ref sig .tc := ⟨.hbm, 21, rfl⟩
abbrev main_while0b_cst_11 : Ref sig .tc := ⟨.hbm, 22, rfl⟩
abbrev main_while0b_v17 : Ref sig .tc := ⟨.hbm, 23, rfl⟩
abbrev main_while0b_v18 : Ref sig .tc := ⟨.hbm, 24, rfl⟩
abbrev main_while0b_v19 : Ref sig .tc := ⟨.hbm, 25, rfl⟩
abbrev main_while0b_cst_12 : Ref sig .tc := ⟨.hbm, 26, rfl⟩
abbrev main_while0b_v20 : Ref sig .tc := ⟨.hbm, 27, rfl⟩
abbrev main_while0b_v21 : Ref sig .tc := ⟨.hbm, 28, rfl⟩
abbrev main_while0b_v22 : Ref sig .tc := ⟨.hbm, 29, rfl⟩
abbrev main_while0b_v23 : Ref sig .tc := ⟨.hbm, 30, rfl⟩
abbrev main_while0b_v24 : Ref sig .tc := ⟨.hbm, 31, rfl⟩
abbrev main_while0b_v25 : Ref sig .tc := ⟨.hbm, 32, rfl⟩
abbrev main_while0b_v26 : Ref sig .tc := ⟨.hbm, 33, rfl⟩
abbrev main_while0b_cst_13 : Ref sig .tc := ⟨.hbm, 34, rfl⟩
abbrev main_while0b_v27 : Ref sig .tc := ⟨.hbm, 35, rfl⟩
abbrev main_while0b_v28 : Ref sig .tc := ⟨.hbm, 36, rfl⟩
abbrev main_while0b_v29 : Ref sig .tc := ⟨.hbm, 37, rfl⟩
abbrev main_while0b_call1_v0 : Ref sig .tc := ⟨.hbm, 38, rfl⟩
abbrev main_while0b_call1_cst : Ref sig .tc := ⟨.hbm, 39, rfl⟩
abbrev main_while0b_call1_c : Ref sig .tc := ⟨.hbm, 40, rfl⟩
abbrev main_while0b_call1_v1_0 : Ref sig .tc := ⟨.hbm, 41, rfl⟩
abbrev main_while0b_v30 : Ref sig .tc := ⟨.hbm, 42, rfl⟩
abbrev main_while0b_c_14 : Ref sig .tc := ⟨.hbm, 43, rfl⟩
abbrev main_while0b_v31 : Ref sig .tc := ⟨.hbm, 44, rfl⟩
abbrev main_while0b_v32 : Ref sig .tc := ⟨.hbm, 45, rfl⟩
abbrev main_while0b_c_15 : Ref sig .tc := ⟨.hbm, 46, rfl⟩
abbrev main_while0b_v33 : Ref sig .tc := ⟨.hbm, 47, rfl⟩
abbrev main_while0b_v34 : Ref sig .tc := ⟨.hbm, 48, rfl⟩
abbrev main_while0b_v35 : Ref sig .tc := ⟨.hbm, 49, rfl⟩
abbrev main_while0b_v36 : Ref sig .tc := ⟨.hbm, 50, rfl⟩
abbrev main_while0b_v37 : Ref sig .tc := ⟨.hbm, 51, rfl⟩
abbrev main_while0b_v38 : Ref sig .tc := ⟨.hbm, 52, rfl⟩
abbrev main_while0b_v39 : Ref sig .tc := ⟨.hbm, 53, rfl⟩
abbrev main_while0b_c_16 : Ref sig .tc := ⟨.hbm, 54, rfl⟩
abbrev main_while0b_v40 : Ref sig .tc := ⟨.hbm, 55, rfl⟩
abbrev main_while0b_c_17 : Ref sig .tc := ⟨.hbm, 56, rfl⟩
abbrev main_while0b_call2_v0 : Ref sig .tc := ⟨.hbm, 57, rfl⟩
abbrev main_while0b_call2_v1 : Ref sig .tc := ⟨.hbm, 58, rfl⟩
abbrev main_while0b_v41 : Ref sig .tc := ⟨.hbm, 59, rfl⟩
abbrev main_while0b_c_18 : Ref sig .tc := ⟨.hbm, 60, rfl⟩
abbrev main_while0b_v42 : Ref sig .tc := ⟨.hbm, 61, rfl⟩
abbrev main_while0b_v43 : Ref sig .tc := ⟨.hbm, 62, rfl⟩
abbrev main_while0b_c_19 : Ref sig .tc := ⟨.hbm, 63, rfl⟩
abbrev main_while0b_v44 : Ref sig .tc := ⟨.hbm, 64, rfl⟩
abbrev main_while0b_v45 : Ref sig .tc := ⟨.hbm, 65, rfl⟩
abbrev main_while0b_v46 : Ref sig .tc := ⟨.hbm, 66, rfl⟩
abbrev main_while0b_v47 : Ref sig .tc := ⟨.hbm, 67, rfl⟩
abbrev main_while0b_c_20 : Ref sig .tc := ⟨.hbm, 68, rfl⟩
abbrev main_while0b_v48 : Ref sig .tc := ⟨.hbm, 69, rfl⟩
abbrev main_while0b_v49 : Ref sig .tc := ⟨.hbm, 70, rfl⟩
abbrev main_while0b_call3_v0 : Ref sig .tc := ⟨.hbm, 71, rfl⟩
abbrev main_while0b_call3_c : Ref sig .tc := ⟨.hbm, 72, rfl⟩
abbrev main_while0b_v50 : Ref sig .tc := ⟨.hbm, 73, rfl⟩
abbrev main_while0b_call4_v0 : Ref sig .tc := ⟨.hbm, 74, rfl⟩
abbrev main_while0b_call4_c : Ref sig .tc := ⟨.hbm, 75, rfl⟩
abbrev main_while0b_v51 : Ref sig .tc := ⟨.hbm, 76, rfl⟩
abbrev main_while0b_c_21 : Ref sig .tc := ⟨.hbm, 77, rfl⟩
abbrev main_while0b_v52 : Ref sig .tc := ⟨.hbm, 78, rfl⟩
abbrev main_v4 : Ref sig .tc := ⟨.hbm, 79, rfl⟩
abbrev main_v5 : Ref sig .tc := ⟨.hbm, 80, rfl⟩
abbrev main_v6 : Ref sig .tc := ⟨.hbm, 81, rfl⟩
abbrev main_cst_2 : Ref sig .tc := ⟨.hbm, 82, rfl⟩
abbrev main_v7 : Ref sig .tc := ⟨.hbm, 83, rfl⟩
abbrev main_cst_3 : Ref sig .tc := ⟨.hbm, 84, rfl⟩
abbrev main_v8 : Ref sig .tc := ⟨.hbm, 85, rfl⟩
abbrev main_v9 : Ref sig .tc := ⟨.hbm, 86, rfl⟩
abbrev main_cst_4 : Ref sig .tc := ⟨.hbm, 87, rfl⟩
abbrev main_v10 : Ref sig .tc := ⟨.hbm, 88, rfl⟩
abbrev main_v11 : Ref sig .tc := ⟨.hbm, 89, rfl⟩
abbrev main_cst_5 : Ref sig .tc := ⟨.hbm, 90, rfl⟩
abbrev main_call5_v0 : Ref sig .tc := ⟨.hbm, 91, rfl⟩
abbrev main_call5_v1 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩

abbrev nD : Nat := 1
abbrev τ : Topo := Topo.v7x

variable {F : FTy → Type} [FloatOps F]

abbrev main_while0_count : Scf.Loop 32 := ⟨0#32, 8#32, 1#32⟩
-- ==== Proof.Spec.lean ====
/-
  Residual vector quantization over the extended reals, as plain functions of rows: the distance of a row to a code
  word, the first code word of least distance, and what one stage does with it. Nothing here mentions either program;
  both are brought to these functions.
-/
module

public import Idealize.ShloMosaic.Lib.Pointwise
public import Idealize.ShloMosaic.Lib.IdealHost

@[expose] public section

noncomputable section

namespace Cert.Rvq

open Idealize.ShloMosaic

/-! ## The first index of least value -/

/-- `k` is the first index at which `f` takes its least value. -/
def IsFirstMin {n : ℕ} (f : Fin n → EReal) (k : Fin n) : Prop := (∀ j, f k ≤ f j) ∧ ∀ j, j < k → f k < f j

theorem IsFirstMin.unique {n : ℕ} {f : Fin n → EReal} {k l : Fin n} (hk : IsFirstMin f k) (hl : IsFirstMin f l) : k = l := by
  rcases lt_trichotomy k l with h | h | h
  · exact absurd (hl.2 k h) (not_lt.mpr (hk.1 l))
  · exact h
  · exact absurd (hk.2 l h) (not_lt.mpr (hl.1 k))

theorem exists_isFirstMin {n : ℕ} [NeZero n] (f : Fin n → EReal) : ∃ k, IsFirstMin f k := by
  classical
  obtain ⟨k₀, h₀⟩ := Finite.exists_min f
  have hne : (Finset.univ.filter fun k => ∀ j, f k ≤ f j).Nonempty := ⟨k₀, by simpa using h₀⟩
  refine ⟨_, by simpa using Finset.min'_mem _ hne, fun j hj => ?_⟩
  have hm : ∀ i, f ((Finset.univ.filter fun k => ∀ j, f k ≤ f j).min' hne) ≤ f i := by
    simpa using Finset.min'_mem _ hne
  by_contra h
  have hmem : j ∈ Finset.univ.filter fun k => ∀ j, f k ≤ f j := by
    simpa using fun i => (not_lt.mp h).trans (hm i)
  exact absurd hj (not_lt.mpr (Finset.min'_le _ _ hmem))

/-- The first index of least value. -/
def firstMin {n : ℕ} [NeZero n] (f : Fin n → EReal) : Fin n := (exists_isFirstMin f).choose

theorem firstMin_spec {n : ℕ} [NeZero n] (f : Fin n → EReal) : IsFirstMin f (firstMin f) := (exists_isFirstMin f).choose_spec

theorem IsFirstMin.eq_firstMin {n : ℕ} [NeZero n] {f : Fin n → EReal} {k : Fin n} (h : IsFirstMin f k) : k = firstMin f :=
  h.unique (firstMin_spec f)

/-- The fold of `min` over all indices, started at the top, is the value at the first index of least value. -/
theorem IsFirstMin.fold_min {n : ℕ} {f : Fin n → EReal} {k : Fin n} (h : IsFirstMin f k) :
    Finset.univ.fold min ⊤ f = f k :=
  le_antisymm (Finset.fold_min_le _ |>.mpr (.inr ⟨k, Finset.mem_univ _, le_rfl⟩))
    (Finset.le_fold_min _ |>.mpr ⟨le_top, fun j _ => h.1 j⟩)

theorem toInt_minsi (x y : BitVec 32) : (IntOp.minsi x y).toInt = min x.toInt y.toInt := by
  unfold IntOp.minsi
  rw [BitVec.slt_eq_decide]
  by_cases h : x.toInt < y.toInt
  · simp [h, h.le]
  · simp [h, not_lt.mp h]

/-- A signed minimum over all indices that is attained at one of them. -/
theorem fold_minsi_eq {n : ℕ} (g : Fin n → BitVec 32) (b : BitVec 32) (k : Fin n) (hb : (g k).toInt ≤ b.toInt)
    (hle : ∀ j, (g k).toInt ≤ (g j).toInt) : Finset.univ.fold IntOp.minsi b g = g k := by
  apply BitVec.eq_of_toInt_eq
  have hfold : (Finset.univ.fold IntOp.minsi b g).toInt = Finset.univ.fold min b.toInt (fun j => (g j).toInt) :=
    (Finset.fold_hom (m := BitVec.toInt) (f := g) (b := b) (s := Finset.univ) (op' := min) (op := IntOp.minsi) toInt_minsi).symm
  rw [hfold]
  exact le_antisymm (Finset.fold_min_le _ |>.mpr (.inr ⟨k, Finset.mem_univ _, le_rfl⟩))
    (Finset.le_fold_min _ |>.mpr ⟨hb, fun j _ => hle j⟩)

theorem toInt_ofNat {k : ℕ} (h : k < 2 ^ 31) : (BitVec.ofNat 32 k).toInt = k := by
  rw [BitVec.toInt_ofNat']; simp only [Int.bmod]; omega

/-- The kernel's way to the first index of least value: the least of the indices whose value is the least, a sentinel
    elsewhere. -/
theorem IsFirstMin.fold_minsi {n : ℕ} (hn : n < 2 ^ 31) {f : Fin n → EReal} {k : Fin n} (h : IsFirstMin f k)
    (p : Fin n → Prop) [DecidablePred p] (hp : ∀ x, p x ↔ f x = f k) :
    Finset.univ.fold IntOp.minsi (2147483647#32) (fun x : Fin n => if p x then BitVec.ofNat 32 x else BitVec.ofNat 32 n)
      = BitVec.ofNat 32 k := by
  have hk : k.val < n := k.isLt
  have hgk : (if p k then BitVec.ofNat 32 k.val else BitVec.ofNat 32 n) = BitVec.ofNat 32 k.val := if_pos ((hp k).mpr rfl)
  rw [fold_minsi_eq _ _ k, hgk]
  · rw [hgk, toInt_ofNat (by omega)]
    have : (2147483647#32 : BitVec 32).toInt = 2147483647 := by decide
    omega
  · intro j
    have hj : j.val < n := j.isLt
    rw [hgk, toInt_ofNat (by omega)]
    by_cases hpj : p j
    · rw [if_pos hpj, toInt_ofNat (by omega)]
      have hkj : k ≤ j := by
        by_contra hlt
        exact absurd ((hp j).mp hpj).le (not_le.mpr (h.2 j (not_le.mp hlt)))
      exact_mod_cast hkj
    · rw [if_neg hpj, toInt_ofNat (by omega)]; omega

/-- Two halves: the first index of least value of the whole is the upper half's when the upper half's least value is
    strictly less, the lower half's otherwise. -/
theorem IsFirstMin.halves {h : ℕ} {f : Fin (h + h) → EReal} {a b : Fin h}
    (ha : IsFirstMin (fun x => f (Fin.castAdd h x)) a) (hb : IsFirstMin (fun x => f (Fin.natAdd h x)) b) :
    IsFirstMin f (if f (Fin.natAdd h b) < f (Fin.castAdd h a) then Fin.natAdd h b else Fin.castAdd h a) := by
  split_ifs with hlt
  · refine ⟨fun j => ?_, fun j => ?_⟩
    · refine Fin.addCases (fun i => ?_) (fun i => ?_) j
      · exact hlt.le.trans (ha.1 i)
      · exact hb.1 i
    · refine Fin.addCases (fun i hi => ?_) (fun i hi => ?_) j
      · exact hlt.trans_le (ha.1 i)
      · have hv : h + i.val < h + b.val := hi
        exact hb.2 i (by show i.val < b.val; omega)
  · have hle := not_lt.mp hlt
    refine ⟨fun j => ?_, fun j => ?_⟩
    · refine Fin.addCases (fun i => ?_) (fun i => ?_) j
      · exact ha.1 i
      · exact hle.trans (hb.1 i)
    · refine Fin.addCases (fun i hi => ?_) (fun i hi => ?_) j
      · exact ha.2 i hi
      · have hv : h + i.val < a.val := hi
        have := a.isLt
        omega

/-- The first stage's way to the first index of least value: both halves searched with the sentinel 512, the upper
    half's index moved up by 512, merged by comparing the two least values. -/
theorem halves_code (D : Fin 1024 → EReal) (lo hi : Fin 512 → EReal) (hlo : ∀ x, lo x = D (Fin.castAdd 512 x))
    (hhi : ∀ x, hi x = D (Fin.natAdd 512 x)) {_ : Decidable (Finset.univ.fold min ⊤ hi < Finset.univ.fold min ⊤ lo)}
    {_ : DecidablePred fun x => hi x = Finset.univ.fold min ⊤ hi} {_ : DecidablePred fun x => lo x = Finset.univ.fold min ⊤ lo} :
    (if Finset.univ.fold min ⊤ hi < Finset.univ.fold min ⊤ lo then
        IntOp.addi (Finset.univ.fold IntOp.minsi (2147483647#32)
          fun x : Fin 512 => if hi x = Finset.univ.fold min ⊤ hi then BitVec.ofNat 32 x else 512#32) 512#32
      else Finset.univ.fold IntOp.minsi (2147483647#32)
          fun x : Fin 512 => if lo x = Finset.univ.fold min ⊤ lo then BitVec.ofNat 32 x else 512#32)
      = BitVec.ofNat 32 (firstMin D) := by
  have ha := firstMin_spec lo
  have hb := firstMin_spec hi
  have hD := IsFirstMin.halves (f := D) (a := firstMin lo) (b := firstMin hi)
    (by simpa only [funext hlo] using ha) (by simpa only [funext hhi] using hb)
  rw [← hD.eq_firstMin, ← hlo, ← hhi, ← ha.fold_min, ← hb.fold_min]
  split_ifs with hlt
  · rw [hb.fold_minsi (by norm_num) (fun x => hi x = Finset.univ.fold min ⊤ hi) fun x => by rw [hb.fold_min]]
    show BitVec.ofNat 32 _ + BitVec.ofNat 32 512 = BitVec.ofNat 32 (512 + (firstMin hi).val)
    rw [← BitVec.ofNat_add, Nat.add_comm]
  · exact ha.fold_minsi (by norm_num) (fun x => lo x = Finset.univ.fold min ⊤ lo) fun x => by rw [ha.fold_min]

/-! ## One row -/

/-- The distance of a row to code word `k`, given the row's and the words' squared lengths. -/
def dist (x2 : EReal) (r : Fin 256 → EReal) (e2 : Fin 1024 → EReal) (cb : Fin 1024 → Fin 256 → EReal) (k : Fin 1024) : EReal :=
  x2 + e2 k - Ideal.ofBits .f32 0x40000000#32 * ∑ d, r d * cb k d

/-- The squared length of a row. -/
def sq (r : Fin 256 → EReal) : EReal := ∑ d, r d * r d

/-- The code of a row: the first code word of least distance. -/
def pick (r : Fin 256 → EReal) (cb : Fin 1024 → Fin 256 → EReal) : Fin 1024 :=
  firstMin (dist (sq r) r (fun k => sq (cb k)) cb)

/-- How many rows have code `k`. -/
def codeCount (C : Fin 65536 → Fin 1024) (k : Fin 1024) : EReal := ∑ i, if k = C i then (1 : EReal) else 0

/-! ## A one-hot row -/

theorem setWidth_cmpi_eq (x k : Fin 1024) :
    (BitVec.setWidth 32 (IntOp.cmpi CmpIPredicate.eq (BitVec.ofNat 32 x.val) (BitVec.ofNat 32 k.val))) = if x = k then 1#32 else 0#32 := by
  have hx := x.isLt
  have hk := k.isLt
  by_cases h : x = k
  · subst h; simp [IntOp.cmpi]
  · have hne : BitVec.ofNat 32 x.val ≠ BitVec.ofNat 32 k.val := by
      intro e
      have := congrArg BitVec.toNat e
      simp only [BitVec.toNat_ofNat] at this
      exact h (Fin.ext (by omega))
    simp only [IntOp.cmpi, beq_eq_false_iff_ne.mpr hne, if_neg h]; rfl

theorem sitofp_one_hot (x k : Fin 1024) :
    (FloatOps.sitofp FTy.f32
      (BitVec.setWidth 32 (IntOp.cmpi CmpIPredicate.eq (BitVec.ofNat 32 x.val) (BitVec.ofNat 32 k.val))) : Ideal .f32)
      = if x = k then (1 : EReal) else 0 := by
  rw [setWidth_cmpi_eq]
  show (((BitVec.toInt (if x = k then 1#32 else 0#32) : ℤ) : ℝ) : EReal) = _
  split_ifs <;> simp

/-- A one-hot row times a table is the table's row. -/
theorem sum_one_hot (k : Fin 1024) (g : Fin 1024 → EReal) :
    ∑ x, (if x = k then (1 : EReal) else 0) * g x = g k := by
  simp [Finset.sum_ite_eq']

end Cert.Rvq
-- ==== Proof.Host.lean ====
/- The host's work before each stage: its code words cut out, and their squared lengths and the residual's. -/
module

public import proofs.«01_k».proof.Proof.Gen.KernelIdeal.Launch
public import proofs.«01_k».proof.Proof.Spec
public import Idealize.ShloMosaic.Lib.Pipeline.ValueKit
public import Idealize.ShloMosaic.Lib.StableHlo.ReadAt

@[expose] public section

set_option maxRecDepth 16384
set_option maxHeartbeats 2000000

noncomputable section

namespace Cert.KernelIdeal.Val

open Idealize.ShloMosaic Idealize.ShloMosaic.TcCoe Idealize.SL.Sem
open Cert.KernelIdeal.Gen Cert.Rvq

/-- What a stage's launch is given, from the residual `res` and all the code words `A`. -/
structure HostOf (k : Fin 8) (A : S8x1024x256.Idx → EReal) (res : S65536x256.Idx → EReal) (x2 : S65536x1.Idx → EReal)
    (cb : S1024x256.Idx → EReal) (e2 : S1x1024.Idx → EReal) : Prop where
  x2_eq : ∀ i : Fin 65536, x2 (ix2 i 0) = ∑ d : Fin 256, res (ix2 i d) * res (ix2 i d)
  cb_eq : ∀ (j : Fin 1024) (d : Fin 256), cb (ix2 j d) = A (ix3 k j d)
  e2_eq : ∀ j : Fin 1024, e2 (ix2 0 j) = ∑ d : Fin 256, A (ix3 k j d) * A (ix3 k j d)

variable (W : Valuation τ sig (Elt Ideal))

theorem host0 : HostOf 0 (W (Proc.devRef .tc main_arg1)) (W (Proc.devRef .tc main_arg0)) (StableHlo.after hostOps0 W (Proc.devRef .tc main_v5))
    (StableHlo.after hostOps0 W (Proc.devRef .tc main_v2)) (StableHlo.after hostOps0 W (Proc.devRef .tc main_v8)) := by
  refine ⟨fun i => ?_, fun j d => ?_, fun j => ?_⟩
  all_goals after_reads_at

theorem host1 : HostOf 1 (W (Proc.devRef .tc main_arg1)) (W (Proc.devRef .tc main_v9_2)) (StableHlo.after hostOps1 W (Proc.devRef .tc main_v14))
    (StableHlo.after hostOps1 W (Proc.devRef .tc main_v11)) (StableHlo.after hostOps1 W (Proc.devRef .tc main_v17)) := by
  refine ⟨fun i => ?_, fun j d => ?_, fun j => ?_⟩
  all_goals after_reads_at

theorem host2 : HostOf 2 (W (Proc.devRef .tc main_arg1)) (W (Proc.devRef .tc main_v18_2)) (StableHlo.after hostOps2 W (Proc.devRef .tc main_v23))
    (StableHlo.after hostOps2 W (Proc.devRef .tc main_v20)) (StableHlo.after hostOps2 W (Proc.devRef .tc main_v26)) := by
  refine ⟨fun i => ?_, fun j d => ?_, fun j => ?_⟩
  all_goals after_reads_at

theorem host3 : HostOf 3 (W (Proc.devRef .tc main_arg1)) (W (Proc.devRef .tc main_v27_2)) (StableHlo.after hostOps3 W (Proc.devRef .tc main_v32))
    (StableHlo.after hostOps3 W (Proc.devRef .tc main_v29)) (StableHlo.after hostOps3 W (Proc.devRef .tc main_v35)) := by
  refine ⟨fun i => ?_, fun j d => ?_, fun j => ?_⟩
  all_goals after_reads_at

theorem host4 : HostOf 4 (W (Proc.devRef .tc main_arg1)) (W (Proc.devRef .tc main_v36_2)) (StableHlo.after hostOps4 W (Proc.devRef .tc main_v41))
    (StableHlo.after hostOps4 W (Proc.devRef .tc main_v38)) (StableHlo.after hostOps4 W (Proc.devRef .tc main_v44)) := by
  refine ⟨fun i => ?_, fun j d => ?_, fun j => ?_⟩
  all_goals after_reads_at

theorem host5 : HostOf 5 (W (Proc.devRef .tc main_arg1)) (W (Proc.devRef .tc main_v45_2)) (StableHlo.after hostOps5 W (Proc.devRef .tc main_v50))
    (StableHlo.after hostOps5 W (Proc.devRef .tc main_v47)) (StableHlo.after hostOps5 W (Proc.devRef .tc main_v53)) := by
  refine ⟨fun i => ?_, fun j d => ?_, fun j => ?_⟩
  all_goals after_reads_at

theorem host6 : HostOf 6 (W (Proc.devRef .tc main_arg1)) (W (Proc.devRef .tc main_v54_2)) (StableHlo.after hostOps6 W (Proc.devRef .tc main_v59))
    (StableHlo.after hostOps6 W (Proc.devRef .tc main_v56)) (StableHlo.after hostOps6 W (Proc.devRef .tc main_v62)) := by
  refine ⟨fun i => ?_, fun j d => ?_, fun j => ?_⟩
  all_goals after_reads_at

theorem host7 : HostOf 7 (W (Proc.devRef .tc main_arg1)) (W (Proc.devRef .tc main_v63_2)) (StableHlo.after hostOps7 W (Proc.devRef .tc main_v68))
    (StableHlo.after hostOps7 W (Proc.devRef .tc main_v65)) (StableHlo.after hostOps7 W (Proc.devRef .tc main_v71)) := by
  refine ⟨fun i => ?_, fun j d => ?_, fun j => ?_⟩
  all_goals after_reads_at

theorem zeros0 (j : S65536x256.Idx) : StableHlo.after hostOps0 W (Proc.devRef .tc main_v0) j = (0 : EReal) := by
  after_reads_at

/-! ## The results: the stages' codes side by side, their usages one above the other, the loss as a scalar -/

variable {W}

theorem codes8 (C : Fin 8 → S65536x1.Idx → BitVec 32) (h0 : W (Proc.devRef .tc main_v9_0) = C 0) (h1 : W (Proc.devRef .tc main_v18_0) = C 1)
    (h2 : W (Proc.devRef .tc main_v27_0) = C 2) (h3 : W (Proc.devRef .tc main_v36_0) = C 3) (h4 : W (Proc.devRef .tc main_v45_0) = C 4)
    (h5 : W (Proc.devRef .tc main_v54_0) = C 5) (h6 : W (Proc.devRef .tc main_v63_0) = C 6) (h7 : W (Proc.devRef .tc main_v72_0) = C 7)
    (i : Fin 65536) (k : Fin 8) : StableHlo.after hostOps8 W (Proc.devRef .tc main_v73) (ix2 i k) = C k (ix2 i 0) := by
  after_reads_at
  fin_cases k
  exacts [congrFun h0 _, congrFun h1 _, congrFun h2 _, congrFun h3 _, congrFun h4 _, congrFun h5 _, congrFun h6 _, congrFun h7 _]

theorem usage8 (C : Fin 8 → S1x1024.Idx → EReal) (h0 : W (Proc.devRef .tc main_v9_1) = C 0) (h1 : W (Proc.devRef .tc main_v18_1) = C 1)
    (h2 : W (Proc.devRef .tc main_v27_1) = C 2) (h3 : W (Proc.devRef .tc main_v36_1) = C 3) (h4 : W (Proc.devRef .tc main_v45_1) = C 4)
    (h5 : W (Proc.devRef .tc main_v54_1) = C 5) (h6 : W (Proc.devRef .tc main_v63_1) = C 6) (h7 : W (Proc.devRef .tc main_v72_1) = C 7)
    (k : Fin 8) (j : Fin 1024) : StableHlo.after hostOps8 W (Proc.devRef .tc main_v74) (ix2 k j) = C k (ix2 0 j) := by
  after_reads_at
  fin_cases k
  exacts [congrFun h0 _, congrFun h1 _, congrFun h2 _, congrFun h3 _, congrFun h4 _, congrFun h5 _, congrFun h6 _, congrFun h7 _]

variable (W)

theorem loss8 : StableHlo.after hostOps8 W (Proc.devRef .tc main_v75) = fun _ => (W (Proc.devRef .tc main_v72_4) (ix2 0 0) : EReal) := by
  funext j
  after_reads_at

end Cert.KernelIdeal.Val
-- ==== Proof.Model.lean ====
/- Residual quantization stage by stage: the residuals, the codes and the sums that the five results are read off. -/
module

public import proofs.«01_k».proof.Proof.Spec

@[expose] public section

noncomputable section

namespace Cert.Rvq

open Idealize.ShloMosaic

/-- Rows of the quantized array, of a residual, of a sum of code words. -/
abbrev Rows := (⟨2, ![65536, 256]⟩ : Shape).Idx → EReal

/-- The code words of the eight stages. -/
abbrev Words := (⟨3, ![8, 1024, 256]⟩ : Shape).Idx → EReal

/-- Code word `j` of stage `k`. -/
def word (A : Words) (k : ℕ) (j : Fin 1024) (d : Fin 256) : EReal := A (ix3 (Fin.ofNat 8 k) j d)

/-- Stage `k`'s code for row `i` of the residual `r`. -/
def chosen (A : Words) (k : ℕ) (r : Rows) (i : Fin 65536) : Fin 1024 := pick (fun d => r (ix2 i d)) (word A k)

/-- The residual entering stage `k`. -/
def resAt (x : Rows) (A : Words) : ℕ → Rows
  | 0 => x
  | k + 1 => fun j => resAt x A k j - word A k (chosen A k (resAt x A k) (j 0)) (j 1)

/-- The codes of stage `k`. -/
def codeAt (x : Rows) (A : Words) (k : ℕ) (i : Fin 65536) : Fin 1024 := chosen A k (resAt x A k) i

/-- The sum of the code words chosen before stage `k`. -/
def sumAt (x : Rows) (A : Words) : ℕ → Rows
  | 0 => fun _ => 0
  | k + 1 => fun j => sumAt x A k j + word A k (codeAt x A k (j 0)) (j 1)

/-- The squared error of all rows together. -/
def errAt (x : Rows) (A : Words) : EReal :=
  ∑ i : Fin 65536, ∑ d : Fin 256, (sumAt x A 8 (ix2 i d) - x (ix2 i d)) * (sumAt x A 8 (ix2 i d) - x (ix2 i d))

end Cert.Rvq
-- ==== Proof.Pay.lean ====
/-
  What the kernel's stage bodies compute on one block of rows, read at an index: the codes, the gathered code words, the
  block's counts, and the updated residual and sum.
-/
module

public import proofs.«01_k».proof.Proof.Gen.KernelIdeal.Skeleton
public import proofs.«01_k».proof.Proof.Spec
public import Idealize.ShloMosaic.Lib.Pipeline.ValueKit

@[expose] public section

set_option maxRecDepth 16384

noncomputable section

namespace Cert.KernelIdeal.Val

open Idealize.ShloMosaic Idealize.ShloMosaic.TcCoe Idealize.SL.Sem
open Cert.KernelIdeal.Gen Cert.Rvq

theorem ofBits_inf : Ideal.ofBits .f32 0x7F800000#32 = ⊤ := by simp [Ideal.ofBits, Ideal.ieee]

/-- Row `i` of a block. -/
abbrev row {n : ℕ} (v : (⟨2, ![n, 256]⟩ : Shape).Idx → EReal) (i : Fin n) : Fin 256 → EReal := fun d => v (ix2 i d)

/-- The code of row `i` of a block: `v0` the rows, `v2` the code words, `v5` and `v7` their squared lengths. -/
def code {n : ℕ} (v0 : (⟨2, ![n, 256]⟩ : Shape).Idx → EReal) (v2 : S1024x256.Idx → EReal) (v5 : (⟨2, ![n, 1]⟩ : Shape).Idx → EReal)
    (v7 : S1x1024.Idx → EReal) (i : Fin n) : Fin 1024 :=
  firstMin (Rvq.dist (v5 (ix2 i 0)) (row v0 i) (fun k => v7 (ix2 0 k)) (row v2))

variable (v0 : Vec Ideal S256x256 .f32) (v2 : Vec Ideal S1024x256 .f32) (v5 : Vec Ideal S256x1 .f32) (v7 : Vec Ideal S1x1024 .f32)

/-! ## The later stages -/

theorem k1_pay7_apply (i : Fin 256) : k1_pay7 v0 v2 v5 v7 (ix1 i) = BitVec.ofNat 32 (code v0 v2 v5 v7 i) := by
  pointwise [k1_pay7, k1_pay5, k1_pay6]
  have h := firstMin_spec (Rvq.dist (v5 (ix2 i 0)) (row v0 i) (fun k => v7 (ix2 0 k)) (row v2))
  rw [ofBits_inf]
  have hf := h.fold_min
  unfold Rvq.dist row at hf
  rw [hf]
  exact h.fold_minsi (by norm_num) _ fun x => Iff.rfl

theorem k1_pay9_apply (i d : Fin 256) : k1_pay9 v0 v2 v5 v7 (ix2 i d) = v2 (ix2 (code v0 v2 v5 v7 i) d) := by
  pointwise [k1_pay9, k1_pay8, k1_pay6]
  simp only [k1_pay7_apply]
  simp only [sitofp_one_hot]
  exact sum_one_hot _ fun x => v2 (ix2 x d)

theorem k1_pay10_apply (k : Fin 1024) : k1_pay10 v0 v2 v5 v7 (ix2 0 k) = ∑ i : Fin 256, if k = code v0 v2 v5 v7 i then (1 : EReal) else 0 := by
  pointwise [k1_pay10, k1_pay8, k1_pay6]
  simp only [k1_pay7_apply]
  exact Finset.sum_congr rfl fun i _ => sitofp_one_hot k _

theorem k1_pay11_apply (i : Fin 256) : k1_pay11 v0 v2 v5 v7 (ix2 i 0) = BitVec.ofNat 32 (code v0 v2 v5 v7 i) := by
  pointwise [k1_pay11]
  exact k1_pay7_apply v0 v2 v5 v7 i

theorem k1_pay12_apply (i d : Fin 256) : k1_pay12 v0 v2 v5 v7 (ix2 i d) = v0 (ix2 i d) - v2 (ix2 (code v0 v2 v5 v7 i) d) := by
  pointwise [k1_pay12, k1_pay5]
  rw [k1_pay9_apply]

theorem k1_pay1_apply (v29 : FVec Ideal S256x256 .f32) (v36 : Vec Ideal S256x256 .f32) (i d : Fin 256) :
    k1_pay1 v29 v36 (ix2 i d) = v36 (ix2 i d) + v29 (ix2 i d) := by
  pointwise [k1_pay1]

theorem k1_pay2_apply (j : S1x1024.Idx) : k1_pay2 (F := Ideal) j = 0 := by
  pointwise [k1_pay2]

theorem k1_pay3_apply (v31 : FVec Ideal S1x1024 .f32) (v43 : Vec Ideal S1x1024 .f32) (j : S1x1024.Idx) :
    k1_pay3 v31 v43 j = v43 j + v31 j := by
  pointwise [k1_pay3]

theorem k1_pay4_apply (v50 : Vec Ideal S1x1024 .f32) (j : S1x1024.Idx) :
    k1_pay4 v50 j = v50 j * Ideal.ofBits .f32 0x37800000#32 := by
  pointwise [k1_pay4]

/-! ## The first stage: the two halves of the code words searched apart and merged -/

theorem k0_pay10_apply (i : Fin 256) : k0_pay10 v0 v2 v5 v7 (ix1 i) = BitVec.ofNat 32 (code v0 v2 v5 v7 i) := by
  pointwise [k0_pay10, k0_pay9]
  rw [ofBits_inf]
  exact halves_code (Rvq.dist (v5 (ix2 i 0)) (row v0 i) (fun k => v7 (ix2 0 k)) (row v2)) _ _ (fun _ => rfl) (fun _ => rfl)

theorem k0_pay2_apply (i d : Fin 256) :
    k0_pay2 (k0_pay9 v2) (iota .tc S256x1024 32 [1] iota_S256x1024_d1_w32) (k0_pay11 v0 v2 v5 v7) (ix2 i d)
      = v2 (ix2 (code v0 v2 v5 v7 i) d) := by
  pointwise [k0_pay2, k0_pay1, k0_pay9, k0_pay11]
  simp only [k0_pay10_apply]
  simp only [sitofp_one_hot]
  exact sum_one_hot _ fun x => v2 (ix2 x d)

theorem k0_pay4_apply (i d : Fin 256) :
    k0_pay4 v0 (k0_pay9 v2) (iota .tc S256x1024 32 [1] iota_S256x1024_d1_w32) (k0_pay11 v0 v2 v5 v7) (ix2 i d)
      = v0 (ix2 i d) - v2 (ix2 (code v0 v2 v5 v7 i) d) := by
  pointwise [k0_pay4]
  rw [k0_pay2_apply]

theorem k0_pay5_apply (v52 : Vec Ideal S256x256 .f32) (i d : Fin 256) :
    k0_pay5 (k0_pay9 v2) (iota .tc S256x1024 32 [1] iota_S256x1024_d1_w32) (k0_pay11 v0 v2 v5 v7) v52 (ix2 i d)
      = v52 (ix2 i d) + v2 (ix2 (code v0 v2 v5 v7 i) d) := by
  pointwise [k0_pay5]
  rw [k0_pay2_apply]

theorem k0_pay3_apply (i : Fin 256) :
    k0_pay3 (k0_pay10 v0 v2 v5 v7) (ix2 i 0) = BitVec.ofNat 32 (code v0 v2 v5 v7 i) := by
  pointwise [k0_pay3]
  exact k0_pay10_apply v0 v2 v5 v7 i

theorem k0_pay7_apply (v59 : Vec Ideal S1x1024 .f32) (k : Fin 1024) :
    k0_pay7 (iota .tc S256x1024 32 [1] iota_S256x1024_d1_w32) (k0_pay11 v0 v2 v5 v7) v59 (ix2 0 k)
      = v59 (ix2 0 k) + ∑ i : Fin 256, if k = code v0 v2 v5 v7 i then (1 : EReal) else 0 := by
  pointwise [k0_pay7, k0_pay1, k0_pay11]
  simp only [k0_pay10_apply]
  exact congrArg _ (Finset.sum_congr rfl fun i _ => sitofp_one_hot k _)

theorem k0_pay6_apply (j : S1x1024.Idx) : k0_pay6 (F := Ideal) j = 0 := by
  pointwise [k0_pay6]

theorem k0_pay8_apply (v : Vec Ideal S1x1024 .f32) (j : S1x1024.Idx) :
    k0_pay8 v j = v j * Ideal.ofBits .f32 0x37800000#32 := by
  pointwise [k0_pay8]

/-! ## The last stage: its share of the loss -/

theorem k7_pay3_apply (v37 : FVec Ideal S256x256 .f32) (v47 : EReal) (v48 : Vec Ideal S256x256 .f32) :
    k7_pay3 v37 v47 v48 = v47 + ∑ i : Fin 256, ∑ d : Fin 256, (v37 (ix2 i d) - v48 (ix2 i d)) * (v37 (ix2 i d) - v48 (ix2 i d)) := by
  unfold k7_pay3
  pointwise []

end Cert.KernelIdeal.Val
-- ==== Proof.Stage.lean ====
/-
  What one stage leaves in its result arrays, as a statement about arrays, and the facts every stage's region proof
  shares: a row's code is the same read from its block and from the arrays, and a block accumulated over all points and
  scaled at the last is the scaled sum.
-/
module

public import proofs.«01_k».proof.Proof.Pay

@[expose] public section

set_option maxRecDepth 16384

noncomputable section

namespace Cert.KernelIdeal.Val

open Idealize.ShloMosaic Idealize.ShloMosaic.TcCoe Idealize.SL.Sem
open Cert.KernelIdeal.Gen Cert.Rvq

theorem exists_ix2 {a b : ℕ} (y : (⟨2, ![a, b]⟩ : Shape).Idx) : ∃ (i : Fin a) (d : Fin b), y = ix2 i d :=
  ⟨y 0, y 1, by idx_ext⟩

/-- One stage, from the squared lengths, the residual, the sum so far and the code words to the codes, the usage, the
    next residual and the next sum. -/
structure StageOut (x2 : S65536x1.Idx → EReal) (res zq : S65536x256.Idx → EReal) (cb : S1024x256.Idx → EReal)
    (e2 : S1x1024.Idx → EReal) (codes : S65536x1.Idx → BitVec 32) (usage : S1x1024.Idx → EReal)
    (res' zq' : S65536x256.Idx → EReal) : Prop where
  codes_eq : codes = fun j => BitVec.ofNat 32 (code res cb x2 e2 (j 0))
  usage_eq : usage = fun j => codeCount (code res cb x2 e2) (j 1) * Ideal.ofBits .f32 0x37800000#32
  res_eq : res' = fun j => res j - cb (ix2 (code res cb x2 e2 (j 0)) (j 1))
  zq_eq : zq' = fun j => zq j + cb (ix2 (code res cb x2 e2 (j 0)) (j 1))

/-- A row's code depends only on the row, its squared length, the code words and theirs. -/
theorem code_congr {n N : ℕ} {v0 : (⟨2, ![n, 256]⟩ : Shape).Idx → EReal} {v2 : S1024x256.Idx → EReal}
    {v5 : (⟨2, ![n, 1]⟩ : Shape).Idx → EReal} {v7 : S1x1024.Idx → EReal}
    {res : (⟨2, ![N, 256]⟩ : Shape).Idx → EReal} {cb : S1024x256.Idx → EReal}
    {x2 : (⟨2, ![N, 1]⟩ : Shape).Idx → EReal} {e2 : S1x1024.Idx → EReal} {i : Fin n} {I : Fin N}
    (h0 : ∀ d, v0 (ix2 i d) = res (ix2 I d)) (h2 : v2 = cb) (h5 : v5 (ix2 i 0) = x2 (ix2 I 0)) (h7 : v7 = e2) :
    code v0 v2 v5 v7 i = code res cb x2 e2 I := by
  have hr : row v0 i = row res I := funext h0
  unfold code
  rw [hr, h2, h5, h7]

/-- A quantity started at the first of 256 points, added into at each later one, and scaled at the last. -/
theorem sum_scaled {N : ℕ} (hN : N = 256) (f : (n : ℕ) → n < N → EReal) (term : Fin N → EReal) (s : EReal)
    (hA : ∀ t : Fin N, t.val % 256 = 0 → f t.val t.isLt = term t)
    (hB : ∀ t : Fin N, ¬t.val % 256 = 0 → ¬t.val % 256 = 255 →
      f t.val t.isLt = f (t.val - 1) (Nat.lt_of_le_of_lt (Nat.sub_le _ _) t.isLt) + term t)
    (hC : ∀ t : Fin N, ¬t.val % 256 = 0 → t.val % 256 = 255 →
      f t.val t.isLt = (f (t.val - 1) (Nat.lt_of_le_of_lt (Nat.sub_le _ _) t.isLt) + term t) * s)
    (t : Fin N) (ht : t.val % 256 = 255) : f t.val t.isLt = (∑ p : Fin N, term p) * s := by
  subst hN
  have hpre : ∀ n (hn : n < 255), f n (by omega) = ∑ p : Fin (n + 1), term (p.castLE (by omega)) := by
    intro n
    induction n with
    | zero => intro _; rw [hA ⟨0, by omega⟩ rfl]; simp
    | succ n ih =>
      intro hn
      rw [hB ⟨n + 1, by omega⟩ (by show ¬(n + 1) % 256 = 0; omega) (by show ¬(n + 1) % 256 = 255; omega), Fin.sum_univ_castSucc]
      exact congrArg₂ _ (ih (by omega)) rfl
  have h255 : t.val = 255 := by omega
  rw [hC t (by omega) ht, Fin.sum_univ_castSucc]
  refine congrArg (· * s) (congrArg₂ _ ?_ (congrArg _ (Fin.ext h255)))
  have := hpre 254 (by omega)
  rw [show (∑ p : Fin 255, term p.castSucc) = ∑ p : Fin (254 + 1), term (p.castLE (by omega)) from rfl, ← this]
  congr 1
  omega

/-- The five input blocks of a stage at point `t`: rows `256 t` on of the row arrays, the code words and their squared
    lengths whole. -/
structure BlockOf (t : ℕ) (b0 : S256x1.Idx → EReal) (b1 b2 : S256x256.Idx → EReal) (b3 : S1024x256.Idx → EReal) (b4 : S1x1024.Idx → EReal)
    (x2 : S65536x1.Idx → EReal) (res zq : S65536x256.Idx → EReal) (cb : S1024x256.Idx → EReal) (e2 : S1x1024.Idx → EReal) : Prop where
  x2_eq : ∀ (i : Fin 256) (I : Fin 65536), I.val = t * 256 + i.val → b0 (ix2 i 0) = x2 (ix2 I 0)
  res_eq : ∀ (i d : Fin 256) (I : Fin 65536), I.val = t * 256 + i.val → b1 (ix2 i d) = res (ix2 I d)
  zq_eq : ∀ (i d : Fin 256) (I : Fin 65536), I.val = t * 256 + i.val → b2 (ix2 i d) = zq (ix2 I d)
  cb_eq : b3 = cb
  e2_eq : b4 = e2

namespace BlockOf

variable {t : ℕ} {b0 : S256x1.Idx → EReal} {b1 b2 : S256x256.Idx → EReal} {b3 : S1024x256.Idx → EReal} {b4 : S1x1024.Idx → EReal}
  {x2 : S65536x1.Idx → EReal} {res zq : S65536x256.Idx → EReal} {cb : S1024x256.Idx → EReal} {e2 : S1x1024.Idx → EReal}

theorem code_eq (h : BlockOf t b0 b1 b2 b3 b4 x2 res zq cb e2) (i : Fin 256) (I : Fin 65536) (hI : I.val = t * 256 + i.val) :
    code b1 b3 b0 b4 i = code res cb x2 e2 I :=
  code_congr (fun d => h.res_eq i d I hI) h.cb_eq (h.x2_eq i I hI) h.e2_eq

/-- The codes of the block, placed in the array. -/
theorem codes_at (h : BlockOf t b0 b1 b2 b3 b4 x2 res zq cb e2) {out : S256x1.Idx → BitVec 32}
    (hout : ∀ i, out (ix2 i 0) = BitVec.ofNat 32 (code b1 b3 b0 b4 i)) (y : S256x1.Idx) (I : Fin 65536)
    (hI : I.val = t * 256 + (y 0).val) : out y = BitVec.ofNat 32 (code res cb x2 e2 I) := by
  obtain ⟨i, z, rfl⟩ := exists_ix2 y
  obtain rfl : z = 0 := Subsingleton.elim _ _
  rw [hout, h.code_eq i I hI]

/-- The next residual of the block, placed in the array. -/
theorem res_at (h : BlockOf t b0 b1 b2 b3 b4 x2 res zq cb e2) {out : S256x256.Idx → EReal}
    (hout : ∀ i d, out (ix2 i d) = b1 (ix2 i d) - b3 (ix2 (code b1 b3 b0 b4 i) d)) (y : S256x256.Idx) (Y : S65536x256.Idx)
    (h0 : (Y 0).val = t * 256 + (y 0).val) (h1 : (Y 1).val = (y 1).val) :
    out y = res Y - cb (ix2 (code res cb x2 e2 (Y 0)) (Y 1)) := by
  obtain ⟨i, d, rfl⟩ := exists_ix2 y
  obtain ⟨I, D, rfl⟩ := exists_ix2 Y
  obtain rfl : D = d := Fin.ext h1
  rw [hout, h.code_eq i I h0, h.res_eq i D I h0, h.cb_eq]
  rfl

/-- The next sum of the block, placed in the array. -/
theorem zq_at (h : BlockOf t b0 b1 b2 b3 b4 x2 res zq cb e2) {out : S256x256.Idx → EReal}
    (hout : ∀ i d, out (ix2 i d) = b2 (ix2 i d) + b3 (ix2 (code b1 b3 b0 b4 i) d)) (y : S256x256.Idx) (Y : S65536x256.Idx)
    (h0 : (Y 0).val = t * 256 + (y 0).val) (h1 : (Y 1).val = (y 1).val) :
    out y = zq Y + cb (ix2 (code res cb x2 e2 (Y 0)) (Y 1)) := by
  obtain ⟨i, d, rfl⟩ := exists_ix2 y
  obtain ⟨I, D, rfl⟩ := exists_ix2 Y
  obtain rfl : D = d := Fin.ext h1
  rw [hout, h.code_eq i I h0, h.zq_eq i D I h0, h.cb_eq]
  rfl

end BlockOf

/-- The usage block: counts started at the first point, added to at each later one and scaled at the last. -/
theorem usage_at {N : ℕ} (hN : N = 256) (C : Fin 65536 → Fin 1024) (Cb : Fin N → Fin 256 → Fin 1024)
    (hCb : ∀ (t : Fin N) (i : Fin 256) (I : Fin 65536), I.val = t.val * 256 + i.val → Cb t i = C I)
    (f : (n : ℕ) → n < N → S1x1024.Idx → EReal) (s : EReal)
    (hA : ∀ t : Fin N, t.val % 256 = 0 → ∀ k : Fin 1024, f t.val t.isLt (ix2 0 k) = ∑ i : Fin 256, if k = Cb t i then (1 : EReal) else 0)
    (hB : ∀ t : Fin N, ¬t.val % 256 = 0 → ¬t.val % 256 = 255 → ∀ k : Fin 1024, f t.val t.isLt (ix2 0 k)
      = f (t.val - 1) (Nat.lt_of_le_of_lt (Nat.sub_le _ _) t.isLt) (ix2 0 k) + ∑ i : Fin 256, if k = Cb t i then (1 : EReal) else 0)
    (hC : ∀ t : Fin N, ¬t.val % 256 = 0 → t.val % 256 = 255 → ∀ k : Fin 1024, f t.val t.isLt (ix2 0 k)
      = (f (t.val - 1) (Nat.lt_of_le_of_lt (Nat.sub_le _ _) t.isLt) (ix2 0 k) + ∑ i : Fin 256, if k = Cb t i then (1 : EReal) else 0) * s)
    (t : Fin N) (ht : t.val % 256 = 255) (y Y : S1x1024.Idx) (hY : (Y 1).val = (y 1).val) :
    f t.val t.isLt y = codeCount C (Y 1) * s := by
  obtain ⟨z, k, rfl⟩ := exists_ix2 y
  obtain ⟨Z, K, rfl⟩ := exists_ix2 Y
  obtain rfl : z = 0 := Subsingleton.elim _ _
  obtain rfl : K = k := Fin.ext hY
  rw [sum_scaled hN (fun n h => f n h (ix2 0 K)) _ s (fun t h => hA t h _) (fun t h h' => hB t h h' _)
    (fun t h h' => hC t h h' _) t ht]
  refine congrArg (· * s) ?_
  subst hN
  show _ = codeCount C K
  unfold codeCount
  refine Fin.sum_mul_add_congr (L := 65536) fun p i hl => ?_
  rw [hCb p i ⟨p.val * 256 + i.val, hl⟩ rfl]

/-! ## From points to arrays -/

variable {N : ℕ} {b0 : Fin N → S256x1.Idx → EReal} {b1 b2 : Fin N → S256x256.Idx → EReal} {b3 : Fin N → S1024x256.Idx → EReal}
  {b4 : Fin N → S1x1024.Idx → EReal} {x2 : S65536x1.Idx → EReal} {res zq : S65536x256.Idx → EReal} {cb : S1024x256.Idx → EReal}
  {e2 : S1x1024.Idx → EReal} {codes : S65536x1.Idx → BitVec 32} {usage : S1x1024.Idx → EReal} {res' zq' : S65536x256.Idx → EReal}

/-- An array whose rows are written point by point, 256 rows a point, is `G` as soon as every point's block is. -/
def RowsOf {w : ℕ} {α : Type} (f : Fin N → (⟨2, ![256, w]⟩ : Shape).Idx → α) (A : (⟨2, ![65536, w]⟩ : Shape).Idx → α) : Prop :=
  ∀ G : (⟨2, ![65536, w]⟩ : Shape).Idx → α,
    (∀ t y Y, (Y 0).val = t.val * 256 + (y 0).val → (Y 1).val = (y 1).val → f t y = G Y) → A = G

/-- An array written once, whole, at the last of 256 points. -/
def LastOf {w : ℕ} {α : Type} (f : (n : ℕ) → n < N → (⟨2, ![1, w]⟩ : Shape).Idx → α) (A : (⟨2, ![1, w]⟩ : Shape).Idx → α) : Prop :=
  ∀ G : (⟨2, ![1, w]⟩ : Shape).Idx → α,
    (∀ t : Fin N, t.val % 256 = 255 → ∀ y Y, (Y 1).val = (y 1).val → f t.val t.isLt y = G Y) → A = G

/-- A stage's arrays, from what its body leaves at each point. -/
theorem StageOut.of_points (hN : N = 256) (hb : ∀ t : Fin N, BlockOf t.val (b0 t) (b1 t) (b2 t) (b3 t) (b4 t) x2 res zq cb e2)
    {f5 : Fin N → S256x1.Idx → BitVec 32} {f6 : (n : ℕ) → n < N → S1x1024.Idx → EReal} {f7 f8 : Fin N → S256x256.Idx → EReal}
    (h5 : RowsOf f5 codes) (h6 : LastOf f6 usage) (h7 : RowsOf f7 res') (h8 : RowsOf f8 zq')
    (hcodes : ∀ t i, f5 t (ix2 i 0) = BitVec.ofNat 32 (code (b1 t) (b3 t) (b0 t) (b4 t) i))
    (hres : ∀ t i d, f7 t (ix2 i d) = b1 t (ix2 i d) - b3 t (ix2 (code (b1 t) (b3 t) (b0 t) (b4 t) i) d))
    (hzq : ∀ t i d, f8 t (ix2 i d) = b2 t (ix2 i d) + b3 t (ix2 (code (b1 t) (b3 t) (b0 t) (b4 t) i) d))
    (hA : ∀ t : Fin N, t.val % 256 = 0 → ∀ k : Fin 1024, f6 t.val t.isLt (ix2 0 k)
      = ∑ i : Fin 256, if k = code (b1 t) (b3 t) (b0 t) (b4 t) i then (1 : EReal) else 0)
    (hB : ∀ t : Fin N, ¬t.val % 256 = 0 → ¬t.val % 256 = 255 → ∀ k : Fin 1024, f6 t.val t.isLt (ix2 0 k)
      = f6 (t.val - 1) (Nat.lt_of_le_of_lt (Nat.sub_le _ _) t.isLt) (ix2 0 k)
        + ∑ i : Fin 256, if k = code (b1 t) (b3 t) (b0 t) (b4 t) i then (1 : EReal) else 0)
    (hC : ∀ t : Fin N, ¬t.val % 256 = 0 → t.val % 256 = 255 → ∀ k : Fin 1024, f6 t.val t.isLt (ix2 0 k)
      = (f6 (t.val - 1) (Nat.lt_of_le_of_lt (Nat.sub_le _ _) t.isLt) (ix2 0 k)
        + ∑ i : Fin 256, if k = code (b1 t) (b3 t) (b0 t) (b4 t) i then (1 : EReal) else 0) * Ideal.ofBits .f32 0x37800000#32) :
    StageOut x2 res zq cb e2 codes usage res' zq' where
  codes_eq := h5 _ fun t y Y h0 _ => (hb t).codes_at (hcodes t) y _ h0
  usage_eq := h6 _ fun t ht y Y h1 => usage_at hN _ (fun t => code (b1 t) (b3 t) (b0 t) (b4 t)) (fun t => (hb t).code_eq) f6 _ hA hB hC t ht y Y h1
  res_eq := h7 _ fun t y Y h0 h1 => (hb t).res_at (hres t) y Y h0 h1
  zq_eq := h8 _ fun t y Y h0 h1 => (hb t).zq_at (hzq t) y Y h0 h1

/-- What the body of a later stage leaves at point `t`, given its counts' block. -/
def bodyOut (c0 : S256x1.Idx → EReal) (c1 c2 : S256x256.Idx → EReal) (c3 : S1024x256.Idx → EReal) (c4 u : S1x1024.Idx → EReal) :
    Vec Ideal S256x1 .i32 × Vec Ideal S1x1024 .f32 × Vec Ideal S256x256 .f32 × Vec Ideal S256x256 .f32 :=
  (k1_pay11 (F := Ideal) c1 c3 c0 c4, u, k1_pay12 (F := Ideal) c1 c3 c0 c4, k1_pay1 (F := Ideal) (k1_pay9 (F := Ideal) c1 c3 c0 c4) c2)

/-- A later stage's arrays, from its body's three cases. -/
theorem StageOut.of_body (hN : N = 256) (hb : ∀ t : Fin N, BlockOf t.val (b0 t) (b1 t) (b2 t) (b3 t) (b4 t) x2 res zq cb e2)
    (outs : (n : ℕ) → n < N → Vec Ideal S256x1 .i32 × Vec Ideal S1x1024 .f32 × Vec Ideal S256x256 .f32 × Vec Ideal S256x256 .f32)
    (h5 : RowsOf (fun t : Fin N => (outs t.val t.isLt).1) codes) (h6 : LastOf (fun n hn => (outs n hn).2.1) usage)
    (h7 : RowsOf (fun t : Fin N => (outs t.val t.isLt).2.2.1) res') (h8 : RowsOf (fun t : Fin N => (outs t.val t.isLt).2.2.2) zq')
    (hA : ∀ t : Fin N, t.val % 256 = 0 → outs t.val t.isLt = bodyOut (b0 t) (b1 t) (b2 t) (b3 t) (b4 t)
      (k1_pay3 (F := Ideal) (k1_pay10 (F := Ideal) (b1 t) (b3 t) (b0 t) (b4 t)) (k1_pay2 (F := Ideal))))
    (hB : ∀ t : Fin N, ¬t.val % 256 = 0 → ¬t.val % 256 = 255 → outs t.val t.isLt = bodyOut (b0 t) (b1 t) (b2 t) (b3 t) (b4 t)
      (k1_pay3 (F := Ideal) (k1_pay10 (F := Ideal) (b1 t) (b3 t) (b0 t) (b4 t)) (outs (t.val - 1) (Nat.lt_of_le_of_lt (Nat.sub_le _ _) t.isLt)).2.1))
    (hC : ∀ t : Fin N, ¬t.val % 256 = 0 → t.val % 256 = 255 → outs t.val t.isLt = bodyOut (b0 t) (b1 t) (b2 t) (b3 t) (b4 t)
      (k1_pay4 (F := Ideal) (k1_pay3 (F := Ideal) (k1_pay10 (F := Ideal) (b1 t) (b3 t) (b0 t) (b4 t))
        (outs (t.val - 1) (Nat.lt_of_le_of_lt (Nat.sub_le _ _) t.isLt)).2.1))) :
    StageOut x2 res zq cb e2 codes usage res' zq' := by
  have hall : ∀ t : Fin N, ∃ u, outs t.val t.isLt = bodyOut (b0 t) (b1 t) (b2 t) (b3 t) (b4 t) u := fun t => by
    by_cases h0 : t.val % 256 = 0
    · exact ⟨_, hA t h0⟩
    · by_cases h1 : t.val % 256 = 255
      · exact ⟨_, hC t h0 h1⟩
      · exact ⟨_, hB t h0 h1⟩
  refine StageOut.of_points hN hb h5 h6 h7 h8 (fun t i => ?_) (fun t i d => ?_) (fun t i d => ?_) (fun t h0 k => ?_)
    (fun t h0 h1 k => ?_) (fun t h0 h1 k => ?_)
  · obtain ⟨u, hu⟩ := hall t; rw [hu]; dsimp only [bodyOut]; rw [k1_pay11_apply]
  · obtain ⟨u, hu⟩ := hall t; rw [hu]; dsimp only [bodyOut]; rw [k1_pay12_apply]
  · obtain ⟨u, hu⟩ := hall t; rw [hu]; dsimp only [bodyOut]; rw [k1_pay1_apply, k1_pay9_apply]
  · rw [hA t h0]; dsimp only [bodyOut]; rw [k1_pay3_apply, k1_pay2_apply, zero_add, k1_pay10_apply]
  · rw [hB t h0 h1]; dsimp only [bodyOut]; rw [k1_pay3_apply, k1_pay10_apply]
  · rw [hC t h0 h1]; dsimp only [bodyOut]; rw [k1_pay4_apply, k1_pay3_apply, k1_pay10_apply]

end Cert.KernelIdeal.Val
-- ==== Proof.Stage0.lean ====
/- The first stage's region: its result arrays. -/
module

public import proofs.«01_k».proof.Proof.Gen.KernelIdeal.Frame.Region0
public import proofs.«01_k».proof.Proof.Stage

@[expose] public section

set_option maxRecDepth 16384
set_option maxHeartbeats 2000000

noncomputable section

namespace Cert.KernelIdeal.Val

open Idealize.ShloMosaic Idealize.ShloMosaic.TcCoe Idealize.SL.Sem
open Cert.KernelIdeal.Gen Cert.Rvq

variable (V : (c : Dev nD) → (b : Ref sig .tc) → Buf (Elt Ideal) ((c : Thread nD τ).loc b)) (c : Dev nD)

/-- The blocks the stage's results are written to at point `t`: rows `256 t` on. -/
theorem idx0 : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0]
    ∧ win0_7.index t = ![t.val, 0] ∧ win0_8.index t = ![t.val, 0] := by
  decide +kernel

theorem blk0 (t : Fin cfg0.N) : BlockOf t.val (iblk0 V c 0 t) (iblk0 V c 1 t) (iblk0 V c 2 t) (iblk0 V c 3 t) (iblk0 V c 4 t)
    (V c main_v5) (V c main_arg0) (V c main_v0) (V c main_v2) (V c main_v8) := by
  obtain ⟨e0, e1, e2, e3, e4, -⟩ := idx0 t
  refine ⟨fun i I hI => ?_, fun i d I hI => ?_, fun i d I hI => ?_, ?_, ?_⟩
  · blk_ext! [iblk0, e0]
  · blk_ext! [iblk0, e1]
  · blk_ext! [iblk0, e2]
  · blk_ext! [iblk0, e3]
  · blk_ext! [iblk0, e4]

/-- What the first stage's body leaves at point `t`, given its counts' block. -/
def bodyOut0 (c0 : S256x1.Idx → EReal) (c1 c2 : S256x256.Idx → EReal) (c3 : S1024x256.Idx → EReal) (c4 u : S1x1024.Idx → EReal) :
    Vec Ideal S256x1 .i32 × Vec Ideal S1x1024 .f32 × Vec Ideal S256x256 .f32 × Vec Ideal S256x256 .f32 :=
  let i : IVec S256x1024 32 := iota .tc S256x1024 32 [1] iota_S256x1024_d1_w32
  (k0_pay3 (k0_pay10 (F := Ideal) c1 c3 c0 c4), u,
    k0_pay4 (F := Ideal) c1 (k0_pay9 (F := Ideal) c3) i (k0_pay11 (F := Ideal) c1 c3 c0 c4),
    k0_pay5 (F := Ideal) (k0_pay9 (F := Ideal) c3) i (k0_pay11 (F := Ideal) c1 c3 c0 c4) c2)

/-- The first stage's counts at point `t`, over the counts before. -/
def countOut0 (t : Fin cfg0.N) (u : S1x1024.Idx → EReal) : S1x1024.Idx → EReal :=
  k0_pay7 (F := Ideal) (iota .tc S256x1024 32 [1] iota_S256x1024_d1_w32)
    (k0_pay11 (F := Ideal) (iblk0 V c 1 t) (iblk0 V c 3 t) (iblk0 V c 0 t) (iblk0 V c 4 t)) u

theorem outs0_A (t : Fin cfg0.N) (h0 : t.val % 256 = 0) : outsAt0 V c t.val t.isLt
    = bodyOut0 (iblk0 V c 0 t) (iblk0 V c 1 t) (iblk0 V c 2 t) (iblk0 V c 3 t) (iblk0 V c 4 t) (countOut0 V c t (k0_pay6 (F := Ideal))) := by
  rw [outsAt0_A V c t h0 (by omega)]; frame_out; rfl

theorem outs0_B (t : Fin cfg0.N) (h0 : ¬t.val % 256 = 0) (h1 : ¬t.val % 256 = 255) : outsAt0 V c t.val t.isLt
    = bodyOut0 (iblk0 V c 0 t) (iblk0 V c 1 t) (iblk0 V c 2 t) (iblk0 V c 3 t) (iblk0 V c 4 t)
      (countOut0 V c t (outsAt0 V c (t.val - 1) (Nat.lt_of_le_of_lt (Nat.sub_le _ _) t.isLt)).2.1) := by
  rw [outsAt0_B V c t h0 h1]; frame_out; rfl

theorem outs0_C (t : Fin cfg0.N) (h0 : ¬t.val % 256 = 0) (h1 : t.val % 256 = 255) : outsAt0 V c t.val t.isLt
    = bodyOut0 (iblk0 V c 0 t) (iblk0 V c 1 t) (iblk0 V c 2 t) (iblk0 V c 3 t) (iblk0 V c 4 t)
      (k0_pay8 (F := Ideal) (countOut0 V c t (outsAt0 V c (t.val - 1) (Nat.lt_of_le_of_lt (Nat.sub_le _ _) t.isLt)).2.1)) := by
  rw [outsAt0_C V c t h0 h1]; frame_out; rfl

theorem outs0 (t : Fin cfg0.N) : ∃ u, outsAt0 V c t.val t.isLt
    = bodyOut0 (iblk0 V c 0 t) (iblk0 V c 1 t) (iblk0 V c 2 t) (iblk0 V c 3 t) (iblk0 V c 4 t) u := by
  by_cases h0 : t.val % 256 = 0
  · exact ⟨_, outs0_A V c t h0⟩
  · by_cases h1 : t.val % 256 = 255
    · exact ⟨_, outs0_C V c t h0 h1⟩
    · exact ⟨_, outs0_B V c t h0 h1⟩

/-- The region's four result arrays. -/
theorem stage0 : StageOut (V c main_v5) (V c main_arg0) (V c main_v0) (V c main_v2) (V c main_v8)
    ((dat0 V c).arrAt 5 cfg0.N) ((dat0 V c).arrAt 6 cfg0.N) ((dat0 V c).arrAt 7 cfg0.N) ((dat0 V c).arrAt 8 cfg0.N) := by
  refine .of_points (f5 := fun t => (outsAt0 V c t.val t.isLt).1) (f6 := fun n hn => (outsAt0 V c n hn).2.1)
    (f7 := fun t => (outsAt0 V c t.val t.isLt).2.2.1) (f8 := fun t => (outsAt0 V c t.val t.isLt).2.2.2)
    N_0 (blk0 V c) (fun G h => ?_) (fun G h => ?_) (fun G h => ?_) (fun G h => ?_)
    (fun t i => ?_) (fun t i d => ?_) (fun t i d => ?_) (fun t h0 k => ?_) (fun t h0 h1 k => ?_) (fun t h0 h1 k => ?_)
  · refine (dat0 V c).arrAt_eq_of_covers 5 G (by decide +kernel) fun t hf y => ?_
    obtain ⟨-, -, -, -, -, e, -⟩ := idx0 t
    blk_simp
    rw [after0_5]
    exact h t y _ (by blk_simp [e]) (by blk_simp [e])
  · refine (dat0 V c).arrAt_eq_of_covers 6 G (by decide +kernel) fun t hf y => ?_
    obtain ⟨-, -, -, -, -, -, e, -⟩ := idx0 t
    blk_simp
    rw [after0_6]
    exact h t ((flush0_6 t).mp hf) y _ (by blk_simp [e])
  · refine (dat0 V c).arrAt_eq_of_covers 7 G (by decide +kernel) fun t hf y => ?_
    obtain ⟨-, -, -, -, -, -, -, e, -⟩ := idx0 t
    blk_simp
    rw [after0_7]
    exact h t y _ (by blk_simp [e]) (by blk_simp [e])
  · refine (dat0 V c).arrAt_eq_of_covers 8 G (by decide +kernel) fun t hf y => ?_
    obtain ⟨-, -, -, -, -, -, -, -, e⟩ := idx0 t
    blk_simp
    rw [after0_8]
    exact h t y _ (by blk_simp [e]) (by blk_simp [e])
  · obtain ⟨u, hu⟩ := outs0 V c t
    rw [hu]; dsimp only [bodyOut0]; rw [k0_pay3_apply]
  · obtain ⟨u, hu⟩ := outs0 V c t
    rw [hu]; dsimp only [bodyOut0]; rw [k0_pay4_apply]
  · obtain ⟨u, hu⟩ := outs0 V c t
    rw [hu]; dsimp only [bodyOut0]; rw [k0_pay5_apply]
  · rw [outs0_A V c t h0]; dsimp only [bodyOut0, countOut0]
    rw [k0_pay7_apply, k0_pay6_apply, zero_add]
  · rw [outs0_B V c t h0 h1]; dsimp only [bodyOut0, countOut0]
    rw [k0_pay7_apply]
  · rw [outs0_C V c t h0 h1]; dsimp only [bodyOut0, countOut0]
    rw [k0_pay8_apply, k0_pay7_apply]

end Cert.KernelIdeal.Val
-- ==== Proof.Stage1.lean ====
/- The second stage's region: its result arrays. -/
module

public import proofs.«01_k».proof.Proof.Gen.KernelIdeal.Frame.Region1
public import proofs.«01_k».proof.Proof.Stage

@[expose] public section

set_option maxRecDepth 16384
set_option maxHeartbeats 2000000

noncomputable section

namespace Cert.KernelIdeal.Val

open Idealize.ShloMosaic Idealize.ShloMosaic.TcCoe Idealize.SL.Sem
open Cert.KernelIdeal.Gen Cert.Rvq

variable (V : (c : Dev nD) → (b : Ref sig .tc) → Buf (Elt Ideal) ((c : Thread nD τ).loc b)) (c : Dev nD)

/-- The blocks the stage's results are written to at point `t`: rows `256 t` on. -/
theorem idx1 : ∀ t : Fin cfg1.N, win1_0.index t = ![t.val, 0] ∧ win1_1.index t = ![t.val, 0] ∧ win1_2.index t = ![t.val, 0]
    ∧ win1_3.index t = ![0, 0] ∧ win1_4.index t = ![0, 0] ∧ win1_5.index t = ![t.val, 0] ∧ win1_6.index t = ![0, 0]
    ∧ win1_7.index t = ![t.val, 0] ∧ win1_8.index t = ![t.val, 0] := by
  decide +kernel

theorem blk1 (t : Fin cfg1.N) : BlockOf t.val (iblk1 V c 0 t) (iblk1 V c 1 t) (iblk1 V c 2 t) (iblk1 V c 3 t) (iblk1 V c 4 t)
    (V c main_v14) (V c main_v9_2) (V c main_v9_3) (V c main_v11) (V c main_v17) := by
  obtain ⟨e0, e1, e2, e3, e4, -⟩ := idx1 t
  refine ⟨fun i I hI => ?_, fun i d I hI => ?_, fun i d I hI => ?_, ?_, ?_⟩
  · blk_ext! [iblk1, e0]
  · blk_ext! [iblk1, e1]
  · blk_ext! [iblk1, e2]
  · blk_ext! [iblk1, e3]
  · blk_ext! [iblk1, e4]

/-- The region's four result arrays. -/
theorem stage1 : StageOut (V c main_v14) (V c main_v9_2) (V c main_v9_3) (V c main_v11) (V c main_v17)
    ((dat1 V c).arrAt 5 cfg1.N) ((dat1 V c).arrAt 6 cfg1.N) ((dat1 V c).arrAt 7 cfg1.N) ((dat1 V c).arrAt 8 cfg1.N) := by
  refine .of_body N_1 (blk1 V c) (outsAt1 V c) (fun G h => ?_) (fun G h => ?_) (fun G h => ?_) (fun G h => ?_)
    (fun t h0 => ?_) (fun t h0 h1 => ?_) (fun t h0 h1 => ?_)
  · refine (dat1 V c).arrAt_eq_of_covers 5 G (by decide +kernel) fun t hf y => ?_
    obtain ⟨-, -, -, -, -, e, -⟩ := idx1 t
    blk_simp
    rw [after1_5]
    exact h t y _ (by blk_simp [e]) (by blk_simp [e])
  · refine (dat1 V c).arrAt_eq_of_covers 6 G (by decide +kernel) fun t hf y => ?_
    obtain ⟨-, -, -, -, -, -, e, -⟩ := idx1 t
    blk_simp
    rw [after1_6]
    exact h t ((flush1_6 t).mp hf) y _ (by blk_simp [e])
  · refine (dat1 V c).arrAt_eq_of_covers 7 G (by decide +kernel) fun t hf y => ?_
    obtain ⟨-, -, -, -, -, -, -, e, -⟩ := idx1 t
    blk_simp
    rw [after1_7]
    exact h t y _ (by blk_simp [e]) (by blk_simp [e])
  · refine (dat1 V c).arrAt_eq_of_covers 8 G (by decide +kernel) fun t hf y => ?_
    obtain ⟨-, -, -, -, -, -, -, -, e⟩ := idx1 t
    blk_simp
    rw [after1_8]
    exact h t y _ (by blk_simp [e]) (by blk_simp [e])
  · rw [outsAt1_A V c t h0 (by omega)]; frame_out; rfl
  · rw [outsAt1_B V c t h0 h1]; frame_out; rfl
  · rw [outsAt1_C V c t h0 h1]; frame_out; rfl

end Cert.KernelIdeal.Val
-- ==== Proof.Stage2.lean ====
/- The third stage's region: its result arrays. -/
module

public import proofs.«01_k».proof.Proof.Gen.KernelIdeal.Frame.Region2
public import proofs.«01_k».proof.Proof.Stage

@[expose] public section

set_option maxRecDepth 16384
set_option maxHeartbeats 2000000

noncomputable section

namespace Cert.KernelIdeal.Val

open Idealize.ShloMosaic Idealize.ShloMosaic.TcCoe Idealize.SL.Sem
open Cert.KernelIdeal.Gen Cert.Rvq

variable (V : (c : Dev nD) → (b : Ref sig .tc) → Buf (Elt Ideal) ((c : Thread nD τ).loc b)) (c : Dev nD)

/-- The blocks the stage's results are written to at point `t`: rows `256 t` on. -/
theorem idx2 : ∀ t : Fin cfg2.N, win2_0.index t = ![t.val, 0] ∧ win2_1.index t = ![t.val, 0] ∧ win2_2.index t = ![t.val, 0]
    ∧ win2_3.index t = ![0, 0] ∧ win2_4.index t = ![0, 0] ∧ win2_5.index t = ![t.val, 0] ∧ win2_6.index t = ![0, 0]
    ∧ win2_7.index t = ![t.val, 0] ∧ win2_8.index t = ![t.val, 0] := by
  decide +kernel

theorem blk2 (t : Fin cfg2.N) : BlockOf t.val (iblk2 V c 0 t) (iblk2 V c 1 t) (iblk2 V c 2 t) (iblk2 V c 3 t) (iblk2 V c 4 t)
    (V c main_v23) (V c main_v18_2) (V c main_v18_3) (V c main_v20) (V c main_v26) := by
  obtain ⟨e0, e1, e2, e3, e4, -⟩ := idx2 t
  refine ⟨fun i I hI => ?_, fun i d I hI => ?_, fun i d I hI => ?_, ?_, ?_⟩
  · blk_ext! [iblk2, e0]
  · blk_ext! [iblk2, e1]
  · blk_ext! [iblk2, e2]
  · blk_ext! [iblk2, e3]
  · blk_ext! [iblk2, e4]

/-- The region's four result arrays. -/
theorem stage2 : StageOut (V c main_v23) (V c main_v18_2) (V c main_v18_3) (V c main_v20) (V c main_v26)
    ((dat2 V c).arrAt 5 cfg2.N) ((dat2 V c).arrAt 6 cfg2.N) ((dat2 V c).arrAt 7 cfg2.N) ((dat2 V c).arrAt 8 cfg2.N) := by
  refine .of_body N_2 (blk2 V c) (outsAt2 V c) (fun G h => ?_) (fun G h => ?_) (fun G h => ?_) (fun G h => ?_)
    (fun t h0 => ?_) (fun t h0 h1 => ?_) (fun t h0 h1 => ?_)
  · refine (dat2 V c).arrAt_eq_of_covers 5 G (by decide +kernel) fun t hf y => ?_
    obtain ⟨-, -, -, -, -, e, -⟩ := idx2 t
    blk_simp
    rw [after2_5]
    exact h t y _ (by blk_simp [e]) (by blk_simp [e])
  · refine (dat2 V c).arrAt_eq_of_covers 6 G (by decide +kernel) fun t hf y => ?_
    obtain ⟨-, -, -, -, -, -, e, -⟩ := idx2 t
    blk_simp
    rw [after2_6]
    exact h t ((flush2_6 t).mp hf) y _ (by blk_simp [e])
  · refine (dat2 V c).arrAt_eq_of_covers 7 G (by decide +kernel) fun t hf y => ?_
    obtain ⟨-, -, -, -, -, -, -, e, -⟩ := idx2 t
    blk_simp
    rw [after2_7]
    exact h t y _ (by blk_simp [e]) (by blk_simp [e])
  · refine (dat2 V c).arrAt_eq_of_covers 8 G (by decide +kernel) fun t hf y => ?_
    obtain ⟨-, -, -, -, -, -, -, -, e⟩ := idx2 t
    blk_simp
    rw [after2_8]
    exact h t y _ (by blk_simp [e]) (by blk_simp [e])
  · rw [outsAt2_A V c t h0 (by omega)]; frame_out; rfl
  · rw [outsAt2_B V c t h0 h1]; frame_out; rfl
  · rw [outsAt2_C V c t h0 h1]; frame_out; rfl

end Cert.KernelIdeal.Val
-- ==== Proof.Stage3.lean ====
/- The fourth stage's region: its result arrays. -/
module

public import proofs.«01_k».proof.Proof.Gen.KernelIdeal.Frame.Region3
public import proofs.«01_k».proof.Proof.Stage

@[expose] public section

set_option maxRecDepth 16384
set_option maxHeartbeats 2000000

noncomputable section

namespace Cert.KernelIdeal.Val

open Idealize.ShloMosaic Idealize.ShloMosaic.TcCoe Idealize.SL.Sem
open Cert.KernelIdeal.Gen Cert.Rvq

variable (V : (c : Dev nD) → (b : Ref sig .tc) → Buf (Elt Ideal) ((c : Thread nD τ).loc b)) (c : Dev nD)

/-- The blocks the stage's results are written to at point `t`: rows `256 t` on. -/
theorem idx3 : ∀ t : Fin cfg3.N, win3_0.index t = ![t.val, 0] ∧ win3_1.index t = ![t.val, 0] ∧ win3_2.index t = ![t.val, 0]
    ∧ win3_3.index t = ![0, 0] ∧ win3_4.index t = ![0, 0] ∧ win3_5.index t = ![t.val, 0] ∧ win3_6.index t = ![0, 0]
    ∧ win3_7.index t = ![t.val, 0] ∧ win3_8.index t = ![t.val, 0] := by
  decide +kernel

theorem blk3 (t : Fin cfg3.N) : BlockOf t.val (iblk3 V c 0 t) (iblk3 V c 1 t) (iblk3 V c 2 t) (iblk3 V c 3 t) (iblk3 V c 4 t)
    (V c main_v32) (V c main_v27_2) (V c main_v27_3) (V c main_v29) (V c main_v35) := by
  obtain ⟨e0, e1, e2, e3, e4, -⟩ := idx3 t
  refine ⟨fun i I hI => ?_, fun i d I hI => ?_, fun i d I hI => ?_, ?_, ?_⟩
  · blk_ext! [iblk3, e0]
  · blk_ext! [iblk3, e1]
  · blk_ext! [iblk3, e2]
  · blk_ext! [iblk3, e3]
  · blk_ext! [iblk3, e4]

/-- The region's four result arrays. -/
theorem stage3 : StageOut (V c main_v32) (V c main_v27_2) (V c main_v27_3) (V c main_v29) (V c main_v35)
    ((dat3 V c).arrAt 5 cfg3.N) ((dat3 V c).arrAt 6 cfg3.N) ((dat3 V c).arrAt 7 cfg3.N) ((dat3 V c).arrAt 8 cfg3.N) := by
  refine .of_body N_3 (blk3 V c) (outsAt3 V c) (fun G h => ?_) (fun G h => ?_) (fun G h => ?_) (fun G h => ?_)
    (fun t h0 => ?_) (fun t h0 h1 => ?_) (fun t h0 h1 => ?_)
  · refine (dat3 V c).arrAt_eq_of_covers 5 G (by decide +kernel) fun t hf y => ?_
    obtain ⟨-, -, -, -, -, e, -⟩ := idx3 t
    blk_simp
    rw [after3_5]
    exact h t y _ (by blk_simp [e]) (by blk_simp [e])
  · refine (dat3 V c).arrAt_eq_of_covers 6 G (by decide +kernel) fun t hf y => ?_
    obtain ⟨-, -, -, -, -, -, e, -⟩ := idx3 t
    blk_simp
    rw [after3_6]
    exact h t ((flush3_6 t).mp hf) y _ (by blk_simp [e])
  · refine (dat3 V c).arrAt_eq_of_covers 7 G (by decide +kernel) fun t hf y => ?_
    obtain ⟨-, -, -, -, -, -, -, e, -⟩ := idx3 t
    blk_simp
    rw [after3_7]
    exact h t y _ (by blk_simp [e]) (by blk_simp [e])
  · refine (dat3 V c).arrAt_eq_of_covers 8 G (by decide +kernel) fun t hf y => ?_
    obtain ⟨-, -, -, -, -, -, -, -, e⟩ := idx3 t
    blk_simp
    rw [after3_8]
    exact h t y _ (by blk_simp [e]) (by blk_simp [e])
  · rw [outsAt3_A V c t h0 (by omega)]; frame_out; rfl
  · rw [outsAt3_B V c t h0 h1]; frame_out; rfl
  · rw [outsAt3_C V c t h0 h1]; frame_out; rfl

end Cert.KernelIdeal.Val
-- ==== Proof.Stage4.lean ====
/- The fifth stage's region: its result arrays. -/
module

public import proofs.«01_k».proof.Proof.Gen.KernelIdeal.Frame.Region4
public import proofs.«01_k».proof.Proof.Stage

@[expose] public section

set_option maxRecDepth 16384
set_option maxHeartbeats 2000000

noncomputable section

namespace Cert.KernelIdeal.Val

open Idealize.ShloMosaic Idealize.ShloMosaic.TcCoe Idealize.SL.Sem
open Cert.KernelIdeal.Gen Cert.Rvq

variable (V : (c : Dev nD) → (b : Ref sig .tc) → Buf (Elt Ideal) ((c : Thread nD τ).loc b)) (c : Dev nD)

/-- The blocks the stage's results are written to at point `t`: rows `256 t` on. -/
theorem idx4 : ∀ t : Fin cfg4.N, win4_0.index t = ![t.val, 0] ∧ win4_1.index t = ![t.val, 0] ∧ win4_2.index t = ![t.val, 0]
    ∧ win4_3.index t = ![0, 0] ∧ win4_4.index t = ![0, 0] ∧ win4_5.index t = ![t.val, 0] ∧ win4_6.index t = ![0, 0]
    ∧ win4_7.index t = ![t.val, 0] ∧ win4_8.index t = ![t.val, 0] := by
  decide +kernel

theorem blk4 (t : Fin cfg4.N) : BlockOf t.val (iblk4 V c 0 t) (iblk4 V c 1 t) (iblk4 V c 2 t) (iblk4 V c 3 t) (iblk4 V c 4 t)
    (V c main_v41) (V c main_v36_2) (V c main_v36_3) (V c main_v38) (V c main_v44) := by
  obtain ⟨e0, e1, e2, e3, e4, -⟩ := idx4 t
  refine ⟨fun i I hI => ?_, fun i d I hI => ?_, fun i d I hI => ?_, ?_, ?_⟩
  · blk_ext! [iblk4, e0]
  · blk_ext! [iblk4, e1]
  · blk_ext! [iblk4, e2]
  · blk_ext! [iblk4, e3]
  · blk_ext! [iblk4, e4]

/-- The region's four result arrays. -/
theorem stage4 : StageOut (V c main_v41) (V c main_v36_2) (V c main_v36_3) (V c main_v38) (V c main_v44)
    ((dat4 V c).arrAt 5 cfg4.N) ((dat4 V c).arrAt 6 cfg4.N) ((dat4 V c).arrAt 7 cfg4.N) ((dat4 V c).arrAt 8 cfg4.N) := by
  refine .of_body N_4 (blk4 V c) (outsAt4 V c) (fun G h => ?_) (fun G h => ?_) (fun G h => ?_) (fun G h => ?_)
    (fun t h0 => ?_) (fun t h0 h1 => ?_) (fun t h0 h1 => ?_)
  · refine (dat4 V c).arrAt_eq_of_covers 5 G (by decide +kernel) fun t hf y => ?_
    obtain ⟨-, -, -, -, -, e, -⟩ := idx4 t
    blk_simp
    rw [after4_5]
    exact h t y _ (by blk_simp [e]) (by blk_simp [e])
  · refine (dat4 V c).arrAt_eq_of_covers 6 G (by decide +kernel) fun t hf y => ?_
    obtain ⟨-, -, -, -, -, -, e, -⟩ := idx4 t
    blk_simp
    rw [after4_6]
    exact h t ((flush4_6 t).mp hf) y _ (by blk_simp [e])
  · refine (dat4 V c).arrAt_eq_of_covers 7 G (by decide +kernel) fun t hf y => ?_
    obtain ⟨-, -, -, -, -, -, -, e, -⟩ := idx4 t
    blk_simp
    rw [after4_7]
    exact h t y _ (by blk_simp [e]) (by blk_simp [e])
  · refine (dat4 V c).arrAt_eq_of_covers 8 G (by decide +kernel) fun t hf y => ?_
    obtain ⟨-, -, -, -, -, -, -, -, e⟩ := idx4 t
    blk_simp
    rw [after4_8]
    exact h t y _ (by blk_simp [e]) (by blk_simp [e])
  · rw [outsAt4_A V c t h0 (by omega)]; frame_out; rfl
  · rw [outsAt4_B V c t h0 h1]; frame_out; rfl
  · rw [outsAt4_C V c t h0 h1]; frame_out; rfl

end Cert.KernelIdeal.Val
-- ==== Proof.Stage5.lean ====
/- The sixth stage's region: its result arrays. -/
module

public import proofs.«01_k».proof.Proof.Gen.KernelIdeal.Frame.Region5
public import proofs.«01_k».proof.Proof.Stage

@[expose] public section

set_option maxRecDepth 16384
set_option maxHeartbeats 2000000

noncomputable section

namespace Cert.KernelIdeal.Val

open Idealize.ShloMosaic Idealize.ShloMosaic.TcCoe Idealize.SL.Sem
open Cert.KernelIdeal.Gen Cert.Rvq

variable (V : (c : Dev nD) → (b : Ref sig .tc) → Buf (Elt Ideal) ((c : Thread nD τ).loc b)) (c : Dev nD)

/-- The blocks the stage's results are written to at point `t`: rows `256 t` on. -/
theorem idx5 : ∀ t : Fin cfg5.N, win5_0.index t = ![t.val, 0] ∧ win5_1.index t = ![t.val, 0] ∧ win5_2.index t = ![t.val, 0]
    ∧ win5_3.index t = ![0, 0] ∧ win5_4.index t = ![0, 0] ∧ win5_5.index t = ![t.val, 0] ∧ win5_6.index t = ![0, 0]
    ∧ win5_7.index t = ![t.val, 0] ∧ win5_8.index t = ![t.val, 0] := by
  decide +kernel

theorem blk5 (t : Fin cfg5.N) : BlockOf t.val (iblk5 V c 0 t) (iblk5 V c 1 t) (iblk5 V c 2 t) (iblk5 V c 3 t) (iblk5 V c 4 t)
    (V c main_v50) (V c main_v45_2) (V c main_v45_3) (V c main_v47) (V c main_v53) := by
  obtain ⟨e0, e1, e2, e3, e4, -⟩ := idx5 t
  refine ⟨fun i I hI => ?_, fun i d I hI => ?_, fun i d I hI => ?_, ?_, ?_⟩
  · blk_ext! [iblk5, e0]
  · blk_ext! [iblk5, e1]
  · blk_ext! [iblk5, e2]
  · blk_ext! [iblk5, e3]
  · blk_ext! [iblk5, e4]

/-- The region's four result arrays. -/
theorem stage5 : StageOut (V c main_v50) (V c main_v45_2) (V c main_v45_3) (V c main_v47) (V c main_v53)
    ((dat5 V c).arrAt 5 cfg5.N) ((dat5 V c).arrAt 6 cfg5.N) ((dat5 V c).arrAt 7 cfg5.N) ((dat5 V c).arrAt 8 cfg5.N) := by
  refine .of_body N_5 (blk5 V c) (outsAt5 V c) (fun G h => ?_) (fun G h => ?_) (fun G h => ?_) (fun G h => ?_)
    (fun t h0 => ?_) (fun t h0 h1 => ?_) (fun t h0 h1 => ?_)
  · refine (dat5 V c).arrAt_eq_of_covers 5 G (by decide +kernel) fun t hf y => ?_
    obtain ⟨-, -, -, -, -, e, -⟩ := idx5 t
    blk_simp
    rw [after5_5]
    exact h t y _ (by blk_simp [e]) (by blk_simp [e])
  · refine (dat5 V c).arrAt_eq_of_covers 6 G (by decide +kernel) fun t hf y => ?_
    obtain ⟨-, -, -, -, -, -, e, -⟩ := idx5 t
    blk_simp
    rw [after5_6]
    exact h t ((flush5_6 t).mp hf) y _ (by blk_simp [e])
  · refine (dat5 V c).arrAt_eq_of_covers 7 G (by decide +kernel) fun t hf y => ?_
    obtain ⟨-, -, -, -, -, -, -, e, -⟩ := idx5 t
    blk_simp
    rw [after5_7]
    exact h t y _ (by blk_simp [e]) (by blk_simp [e])
  · refine (dat5 V c).arrAt_eq_of_covers 8 G (by decide +kernel) fun t hf y => ?_
    obtain ⟨-, -, -, -, -, -, -, -, e⟩ := idx5 t
    blk_simp
    rw [after5_8]
    exact h t y _ (by blk_simp [e]) (by blk_simp [e])
  · rw [outsAt5_A V c t h0 (by omega)]; frame_out; rfl
  · rw [outsAt5_B V c t h0 h1]; frame_out; rfl
  · rw [outsAt5_C V c t h0 h1]; frame_out; rfl

end Cert.KernelIdeal.Val
-- ==== Proof.Stage6.lean ====
/- The seventh stage's region: its result arrays. -/
module

public import proofs.«01_k».proof.Proof.Gen.KernelIdeal.Frame.Region6
public import proofs.«01_k».proof.Proof.Stage

@[expose] public section

set_option maxRecDepth 16384
set_option maxHeartbeats 2000000

noncomputable section

namespace Cert.KernelIdeal.Val

open Idealize.ShloMosaic Idealize.ShloMosaic.TcCoe Idealize.SL.Sem
open Cert.KernelIdeal.Gen Cert.Rvq

variable (V : (c : Dev nD) → (b : Ref sig .tc) → Buf (Elt Ideal) ((c : Thread nD τ).loc b)) (c : Dev nD)

/-- The blocks the stage's results are written to at point `t`: rows `256 t` on. -/
theorem idx6 : ∀ t : Fin cfg6.N, win6_0.index t = ![t.val, 0] ∧ win6_1.index t = ![t.val, 0] ∧ win6_2.index t = ![t.val, 0]
    ∧ win6_3.index t = ![0, 0] ∧ win6_4.index t = ![0, 0] ∧ win6_5.index t = ![t.val, 0] ∧ win6_6.index t = ![0, 0]
    ∧ win6_7.index t = ![t.val, 0] ∧ win6_8.index t = ![t.val, 0] := by
  decide +kernel

theorem blk6 (t : Fin cfg6.N) : BlockOf t.val (iblk6 V c 0 t) (iblk6 V c 1 t) (iblk6 V c 2 t) (iblk6 V c 3 t) (iblk6 V c 4 t)
    (V c main_v59) (V c main_v54_2) (V c main_v54_3) (V c main_v56) (V c main_v62) := by
  obtain ⟨e0, e1, e2, e3, e4, -⟩ := idx6 t
  refine ⟨fun i I hI => ?_, fun i d I hI => ?_, fun i d I hI => ?_, ?_, ?_⟩
  · blk_ext! [iblk6, e0]
  · blk_ext! [iblk6, e1]
  · blk_ext! [iblk6, e2]
  · blk_ext! [iblk6, e3]
  · blk_ext! [iblk6, e4]

/-- The region's four result arrays. -/
theorem stage6 : StageOut (V c main_v59) (V c main_v54_2) (V c main_v54_3) (V c main_v56) (V c main_v62)
    ((dat6 V c).arrAt 5 cfg6.N) ((dat6 V c).arrAt 6 cfg6.N) ((dat6 V c).arrAt 7 cfg6.N) ((dat6 V c).arrAt 8 cfg6.N) := by
  refine .of_body N_6 (blk6 V c) (outsAt6 V c) (fun G h => ?_) (fun G h => ?_) (fun G h => ?_) (fun G h => ?_)
    (fun t h0 => ?_) (fun t h0 h1 => ?_) (fun t h0 h1 => ?_)
  · refine (dat6 V c).arrAt_eq_of_covers 5 G (by decide +kernel) fun t hf y => ?_
    obtain ⟨-, -, -, -, -, e, -⟩ := idx6 t
    blk_simp
    rw [after6_5]
    exact h t y _ (by blk_simp [e]) (by blk_simp [e])
  · refine (dat6 V c).arrAt_eq_of_covers 6 G (by decide +kernel) fun t hf y => ?_
    obtain ⟨-, -, -, -, -, -, e, -⟩ := idx6 t
    blk_simp
    rw [after6_6]
    exact h t ((flush6_6 t).mp hf) y _ (by blk_simp [e])
  · refine (dat6 V c).arrAt_eq_of_covers 7 G (by decide +kernel) fun t hf y => ?_
    obtain ⟨-, -, -, -, -, -, -, e, -⟩ := idx6 t
    blk_simp
    rw [after6_7]
    exact h t y _ (by blk_simp [e]) (by blk_simp [e])
  · refine (dat6 V c).arrAt_eq_of_covers 8 G (by decide +kernel) fun t hf y => ?_
    obtain ⟨-, -, -, -, -, -, -, -, e⟩ := idx6 t
    blk_simp
    rw [after6_8]
    exact h t y _ (by blk_simp [e]) (by blk_simp [e])
  · rw [outsAt6_A V c t h0 (by omega)]; frame_out; rfl
  · rw [outsAt6_B V c t h0 h1]; frame_out; rfl
  · rw [outsAt6_C V c t h0 h1]; frame_out; rfl

end Cert.KernelIdeal.Val
-- ==== Proof.Pay7.lean ====
/- The last stage's payloads are the other later stages' under other names. -/
module

public import proofs.«01_k».proof.Proof.Pay

@[expose] public section

set_option maxRecDepth 16384

noncomputable section

namespace Cert.KernelIdeal.Val

open Idealize.ShloMosaic Idealize.ShloMosaic.TcCoe Idealize.SL.Sem
open Cert.KernelIdeal.Gen Cert.Rvq

variable (v0 : Vec Ideal S256x256 .f32) (v2 : Vec Ideal S1024x256 .f32) (v5 : Vec Ideal S256x1 .f32) (v7 : Vec Ideal S1x1024 .f32)

theorem k7_pay8_eq : k7_pay8 v0 v2 v5 v7 = k1_pay7 v0 v2 v5 v7 := by
  unfold k7_pay8 k1_pay7 k7_pay6 k7_pay7 k1_pay5 k1_pay6; rfl

theorem k7_pay9_eq : k7_pay9 v0 v2 v5 v7 = k1_pay8 v0 v2 v5 v7 := by
  unfold k7_pay9 k1_pay8; rw [k7_pay8_eq]

theorem k7_pay10_eq : k7_pay10 v0 v2 v5 v7 = k1_pay9 v0 v2 v5 v7 := by
  unfold k7_pay10 k1_pay9 k7_pay7 k1_pay6; rw [k7_pay9_eq]

theorem k7_pay11_eq : k7_pay11 v0 v2 v5 v7 = k1_pay10 v0 v2 v5 v7 := by
  unfold k7_pay11 k1_pay10; rw [k7_pay9_eq]

theorem k7_pay12_eq : k7_pay12 v0 v2 v5 v7 = k1_pay11 v0 v2 v5 v7 := by
  unfold k7_pay12 k1_pay11; rw [k7_pay8_eq]

theorem k7_pay13_eq : k7_pay13 v0 v2 v5 v7 = k1_pay12 v0 v2 v5 v7 := by
  unfold k7_pay13 k1_pay12 k7_pay6 k1_pay5; rw [k7_pay10_eq]

theorem k7_pay14_eq (v36 : Vec Ideal S256x256 .f32) : k7_pay14 v0 v2 v5 v7 v36 = k1_pay1 (k1_pay9 v0 v2 v5 v7) v36 := by
  unfold k7_pay14 k1_pay1; rw [k7_pay10_eq]

theorem k7_pay1_eq : k7_pay1 (F := Ideal) = k1_pay2 := rfl

theorem k7_pay2_eq : k7_pay2 (F := Ideal) = k1_pay3 := rfl

theorem k7_pay4_eq : k7_pay4 (F := Ideal) = k1_pay4 := rfl

/-- The only entry of a one-entry array. -/
theorem ld_one (v : Vec Ideal S1x1 .f32) (h) :
    View.ld v (Rect.unit ![0, 0] ![1, 1] inb_S1x1_S1x1_0_0) (Shape.Idx.first h) = v (ix2 0 0) :=
  congrArg v (by idx_ext)

end Cert.KernelIdeal.Val
-- ==== Proof.Stage7.lean ====
/- The last stage's region: its result arrays. -/
module

public import proofs.«01_k».proof.Proof.Gen.KernelIdeal.Frame.Region7
public import proofs.«01_k».proof.Proof.Stage
public import proofs.«01_k».proof.Proof.Pay7

@[expose] public section

set_option maxRecDepth 16384
set_option maxHeartbeats 2000000

noncomputable section

namespace Cert.KernelIdeal.Val

open Idealize.ShloMosaic Idealize.ShloMosaic.TcCoe Idealize.SL.Sem
open Cert.KernelIdeal.Gen Cert.Rvq

variable (V : (c : Dev nD) → (b : Ref sig .tc) → Buf (Elt Ideal) ((c : Thread nD τ).loc b)) (c : Dev nD)

/-- The blocks the stage's results are written to at point `t`: rows `256 t` on. -/
theorem idx7 : ∀ t : Fin cfg7.N, win7_0.index t = ![t.val, 0] ∧ win7_1.index t = ![t.val, 0] ∧ win7_2.index t = ![t.val, 0]
    ∧ win7_3.index t = ![0, 0] ∧ win7_4.index t = ![0, 0] ∧ win7_5.index t = ![t.val, 0] ∧ win7_6.index t = ![t.val, 0]
    ∧ win7_7.index t = ![0, 0] ∧ win7_8.index t = ![t.val, 0] ∧ win7_9.index t = ![t.val, 0] ∧ win7_10.index t = ![0, 0] := by
  decide +kernel

theorem blk7 (t : Fin cfg7.N) : BlockOf t.val (iblk7 V c 0 t) (iblk7 V c 1 t) (iblk7 V c 2 t) (iblk7 V c 3 t) (iblk7 V c 4 t)
    (V c main_v68) (V c main_v63_2) (V c main_v63_3) (V c main_v65) (V c main_v71) := by
  obtain ⟨e0, e1, e2, e3, e4, -⟩ := idx7 t
  refine ⟨fun i I hI => ?_, fun i d I hI => ?_, fun i d I hI => ?_, ?_, ?_⟩
  · blk_ext! [iblk7, e0]
  · blk_ext! [iblk7, e1]
  · blk_ext! [iblk7, e2]
  · blk_ext! [iblk7, e3]
  · blk_ext! [iblk7, e4]

/-- The block of the rows being quantized at point `t`. -/
theorem src7 (t : Fin cfg7.N) (i d : Fin 256) (I : Fin 65536) (hI : I.val = t.val * 256 + i.val) :
    iblk7 V c 5 t (ix2 i d) = V c main_arg0 (ix2 I d) := by
  obtain ⟨-, -, -, -, -, e5, -⟩ := idx7 t
  blk_ext! [iblk7, e5]

/-- The last stage's share of the loss at point `t`, over the loss before. -/
def lossOut (t : Fin cfg7.N) (l : S1x1.Idx → EReal) : S1x1.Idx → EReal := fun _ =>
  k7_pay3 (F := Ideal) (k1_pay1 (F := Ideal) (k1_pay9 (F := Ideal) (iblk7 V c 1 t) (iblk7 V c 3 t) (iblk7 V c 0 t) (iblk7 V c 4 t)) (iblk7 V c 2 t))
    (View.ld l (Rect.unit ![0, 0] ![1, 1] inb_S1x1_S1x1_0_0) (Shape.Idx.first (by decide))) (iblk7 V c 5 t)

/-- The last stage's four results at point `t` that are as any later stage's, and its loss. -/
def bodyOut7 (t : Fin cfg7.N) (u : S1x1024.Idx → EReal) (l : S1x1.Idx → EReal) :
    Vec Ideal S256x1 .i32 × Vec Ideal S1x1024 .f32 × Vec Ideal S256x256 .f32 × Vec Ideal S256x256 .f32 × Vec Ideal S1x1 .f32 :=
  let b := bodyOut (iblk7 V c 0 t) (iblk7 V c 1 t) (iblk7 V c 2 t) (iblk7 V c 3 t) (iblk7 V c 4 t) u
  (b.1, b.2.1, b.2.2.1, b.2.2.2, l)

/-- The counts at point `t`, over the counts before. -/
def countOut7 (t : Fin cfg7.N) (u : S1x1024.Idx → EReal) : S1x1024.Idx → EReal :=
  k1_pay3 (F := Ideal) (k1_pay10 (F := Ideal) (iblk7 V c 1 t) (iblk7 V c 3 t) (iblk7 V c 0 t) (iblk7 V c 4 t)) u

theorem outs7_A (t : Fin cfg7.N) (h0 : t.val % 256 = 0) : outsAt7 V c t.val t.isLt
    = bodyOut7 V c t (countOut7 V c t (k1_pay2 (F := Ideal))) (lossOut V c t fun _ => Ideal.ofBits .f32 0x00000000#32) := by
  rw [outsAt7_A V c t h0 (by omega)]; frame_out
  simp only [k7_pay12_eq, k7_pay11_eq, k7_pay13_eq, k7_pay14_eq, k7_pay1_eq, k7_pay2_eq, k7_pay4_eq]
  dsimp only [bodyOut7, bodyOut, countOut7, lossOut]
  rfl

theorem outs7_B (t : Fin cfg7.N) (h0 : ¬t.val % 256 = 0) (h1 : ¬t.val % 256 = 255) : outsAt7 V c t.val t.isLt
    = bodyOut7 V c t (countOut7 V c t (outsAt7 V c (t.val - 1) (Nat.lt_of_le_of_lt (Nat.sub_le _ _) t.isLt)).2.1)
      (lossOut V c t (outsAt7 V c (t.val - 1) (Nat.lt_of_le_of_lt (Nat.sub_le _ _) t.isLt)).2.2.2.2) := by
  rw [outsAt7_B V c t h0 h1]; frame_out
  simp only [k7_pay12_eq, k7_pay11_eq, k7_pay13_eq, k7_pay14_eq, k7_pay1_eq, k7_pay2_eq, k7_pay4_eq]
  dsimp only [bodyOut7, bodyOut, countOut7, lossOut]
  rfl

theorem outs7_C (t : Fin cfg7.N) (h0 : ¬t.val % 256 = 0) (h1 : t.val % 256 = 255) : outsAt7 V c t.val t.isLt
    = bodyOut7 V c t (k1_pay4 (F := Ideal) (countOut7 V c t (outsAt7 V c (t.val - 1) (Nat.lt_of_le_of_lt (Nat.sub_le _ _) t.isLt)).2.1))
      (fun _ => k7_pay5 (F := Ideal) (lossOut V c t (outsAt7 V c (t.val - 1) (Nat.lt_of_le_of_lt (Nat.sub_le _ _) t.isLt)).2.2.2.2 (ix2 0 0))) := by
  rw [outsAt7_C V c t h0 h1]; frame_out
  simp only [k7_pay12_eq, k7_pay11_eq, k7_pay13_eq, k7_pay14_eq, k7_pay1_eq, k7_pay2_eq, k7_pay4_eq]
  dsimp only [bodyOut7, bodyOut, countOut7, lossOut]
  rfl

/-- The region's four result arrays. -/
theorem stage7 : StageOut (V c main_v68) (V c main_v63_2) (V c main_v63_3) (V c main_v65) (V c main_v71)
    ((dat7 V c).arrAt 6 cfg7.N) ((dat7 V c).arrAt 7 cfg7.N) ((dat7 V c).arrAt 8 cfg7.N) ((dat7 V c).arrAt 9 cfg7.N) := by
  refine .of_body N_7 (blk7 V c) (fun n hn => ((outsAt7 V c n hn).1, (outsAt7 V c n hn).2.1, (outsAt7 V c n hn).2.2.1, (outsAt7 V c n hn).2.2.2.1))
    (fun G h => ?_) (fun G h => ?_) (fun G h => ?_) (fun G h => ?_) (fun t h0 => ?_) (fun t h0 h1 => ?_) (fun t h0 h1 => ?_)
  · refine (dat7 V c).arrAt_eq_of_covers 6 G (by decide +kernel) fun t hf y => ?_
    obtain ⟨-, -, -, -, -, -, e, -⟩ := idx7 t
    blk_simp
    rw [after7_6]
    exact h t y _ (by blk_simp [e]) (by blk_simp [e])
  · refine (dat7 V c).arrAt_eq_of_covers 7 G (by decide +kernel) fun t hf y => ?_
    obtain ⟨-, -, -, -, -, -, -, e, -⟩ := idx7 t
    blk_simp
    rw [after7_7]
    exact h t ((flush7_7 t).mp hf) y _ (by blk_simp [e])
  · refine (dat7 V c).arrAt_eq_of_covers 8 G (by decide +kernel) fun t hf y => ?_
    obtain ⟨-, -, -, -, -, -, -, -, e, -⟩ := idx7 t
    blk_simp
    rw [after7_8]
    exact h t y _ (by blk_simp [e]) (by blk_simp [e])
  · refine (dat7 V c).arrAt_eq_of_covers 9 G (by decide +kernel) fun t hf y => ?_
    obtain ⟨-, -, -, -, -, -, -, -, -, e, -⟩ := idx7 t
    blk_simp
    rw [after7_9]
    exact h t y _ (by blk_simp [e]) (by blk_simp [e])
  · rw [outs7_A V c t h0]; dsimp only [bodyOut7, countOut7, bodyOut]
  · dsimp only; rw [outs7_B V c t h0 h1]; dsimp only [bodyOut7, countOut7, bodyOut]
  · dsimp only; rw [outs7_C V c t h0 h1]; dsimp only [bodyOut7, countOut7, bodyOut]

end Cert.KernelIdeal.Val
-- ==== Proof.Loss7.lean ====
/- The last stage's region: its loss. -/
module

public import proofs.«01_k».proof.Proof.Stage7

@[expose] public section

set_option maxRecDepth 16384
set_option maxHeartbeats 2000000

noncomputable section

namespace Cert.KernelIdeal.Val

open Idealize.ShloMosaic Idealize.ShloMosaic.TcCoe Idealize.SL.Sem
open Cert.KernelIdeal.Gen Cert.Rvq

variable (V : (c : Dev nD) → (b : Ref sig .tc) → Buf (Elt Ideal) ((c : Thread nD τ).loc b)) (c : Dev nD)

/-- The squared error of row `I` of `z` against `x`. -/
def rowLoss (z x : S65536x256.Idx → EReal) (I : Fin 65536) : EReal :=
  ∑ d : Fin 256, (z (ix2 I d) - x (ix2 I d)) * (z (ix2 I d) - x (ix2 I d))

/-- Rows summed block by block. -/
theorem sum_rows {n : ℕ} (hn : n = 256) (g : Fin 65536 → EReal) (hlt : ∀ (t : Fin n) (i : Fin 256), t.val * 256 + i.val < 65536) :
    ∑ t : Fin n, ∑ i : Fin 256, g ⟨t.val * 256 + i.val, hlt t i⟩ = ∑ I, g I := by
  subst hn
  exact Fin.sum_mul_add_congr fun s k hl => rfl

theorem lossOut_apply (t : Fin cfg7.N) (l : S1x1.Idx → EReal) (j : S1x1.Idx) (I : Fin 256 → Fin 65536) (hI : ∀ i, (I i).val = t.val * 256 + i.val) :
    lossOut V c t l j = l (ix2 0 0) + ∑ i : Fin 256, rowLoss ((dat7 V c).arrAt 9 cfg7.N) (V c main_arg0) (I i) := by
  unfold lossOut rowLoss
  rw [k7_pay3_apply]
  refine congrArg₂ (fun a b : EReal => a + b) (ld_one l _) (Finset.sum_congr rfl fun i _ => Finset.sum_congr rfl fun d _ => ?_)
  rw [src7 V c t i d (I i) (hI i)]
  have h := (blk7 V c t).zq_at (out := k1_pay1 (F := Ideal) (k1_pay9 (F := Ideal) (iblk7 V c 1 t) (iblk7 V c 3 t) (iblk7 V c 0 t) (iblk7 V c 4 t)) (iblk7 V c 2 t))
    (fun i d => by rw [k1_pay1_apply, k1_pay9_apply]) (ix2 i d) (ix2 (I i) d) (hI i) rfl
  rw [h, (stage7 V c).zq_eq]

theorem row_lt (t : Fin cfg7.N) (i : Fin 256) : t.val * 256 + i.val < 65536 := by
  have hN : cfg7.N = 256 := N_7
  have := t.isLt
  omega

/-- The loss after the last point. -/
theorem loss_last (t : Fin cfg7.N) (ht : t.val % 256 = 255) : (outsAt7 V c t.val t.isLt).2.2.2.2 (ix2 0 0)
    = (∑ I : Fin 65536, rowLoss ((dat7 V c).arrAt 9 cfg7.N) (V c main_arg0) I) * Ideal.ofBits .f32 0x33800000#32 := by
  rw [← sum_rows N_7 (rowLoss ((dat7 V c).arrAt 9 cfg7.N) (V c main_arg0)) row_lt]
  refine sum_scaled N_7 (fun n h => (outsAt7 V c n h).2.2.2.2 (ix2 0 0))
    (fun t => ∑ i : Fin 256, rowLoss ((dat7 V c).arrAt 9 cfg7.N) (V c main_arg0) ⟨t.val * 256 + i.val, row_lt t i⟩)
    (Ideal.ofBits .f32 0x33800000#32) (fun t h => ?_) (fun t h h' => ?_) (fun t h h' => ?_) t ht
  · rw [outs7_A V c t h]; dsimp only [bodyOut7]
    rw [lossOut_apply V c t _ _ (fun i => ⟨t.val * 256 + i.val, row_lt t i⟩) fun _ => rfl, Ideal.ofBits_zero_f32, zero_add]
  · rw [outs7_B V c t h h']; dsimp only [bodyOut7]
    rw [lossOut_apply V c t _ _ (fun i => ⟨t.val * 256 + i.val, row_lt t i⟩) fun _ => rfl]
  · rw [outs7_C V c t h h']; dsimp only [bodyOut7]
    rw [lossOut_apply V c t _ _ (fun i => ⟨t.val * 256 + i.val, row_lt t i⟩) fun _ => rfl]
    rfl

/-- The loss: the mean squared error as a sum scaled. -/
theorem loss7 : (dat7 V c).arrAt 10 cfg7.N = fun _ => (∑ I : Fin 65536, rowLoss ((dat7 V c).arrAt 9 cfg7.N) (V c main_arg0) I) * Ideal.ofBits .f32 0x33800000#32 := by
  refine (dat7 V c).arrAt_eq_of_covers 10 _ (by decide +kernel) fun t hf y => ?_
  blk_simp
  rw [after7_10]
  obtain ⟨i, d, rfl⟩ := exists_ix2 y
  obtain rfl : i = 0 := Subsingleton.elim _ _
  obtain rfl : d = 0 := Subsingleton.elim _ _
  exact loss_last V c t ((flush7_10 t).mp hf)

end Cert.KernelIdeal.Val
-- ==== Proof.Chain.lean ====
/- The kernel's results, through its eight stages. -/
module

public import proofs.«01_k».proof.Proof.Gen.KernelIdeal.Frame.Fold0
public import proofs.«01_k».proof.Proof.Host
public import proofs.«01_k».proof.Proof.Model
public import proofs.«01_k».proof.Proof.Stage0
public import proofs.«01_k».proof.Proof.Stage1
public import proofs.«01_k».proof.Proof.Stage2
public import proofs.«01_k».proof.Proof.Stage3
public import proofs.«01_k».proof.Proof.Stage4
public import proofs.«01_k».proof.Proof.Stage5
public import proofs.«01_k».proof.Proof.Stage6
public import proofs.«01_k».proof.Proof.Stage7
public import proofs.«01_k».proof.Proof.Loss7

@[expose] public section

set_option maxRecDepth 16384
set_option maxHeartbeats 2000000

noncomputable section

namespace Cert.KernelIdeal.Val

open Idealize.ShloMosaic Idealize.ShloMosaic.TcCoe Idealize.SL.Sem
open Cert.KernelIdeal.Gen Cert.Rvq

/-- A stage's results in terms of the arrays quantized: its codes, its usage, and the next residual and sum. -/
structure StepOut (x : Rows) (A : Words) (k : ℕ) (codes : S65536x1.Idx → BitVec 32) (usage : S1x1024.Idx → EReal)
    (res' zq' : S65536x256.Idx → EReal) : Prop where
  codes_eq : codes = fun j => BitVec.ofNat 32 (codeAt x A k (j 0))
  usage_eq : usage = fun j => codeCount (codeAt x A k) (j 1) * Ideal.ofBits .f32 0x37800000#32
  res_eq : res' = resAt x A (k + 1)
  zq_eq : zq' = sumAt x A (k + 1)

theorem HostOf.code_eq {kk : Fin 8} {A : Words} {res : Rows} {x2 : S65536x1.Idx → EReal} {cb : S1024x256.Idx → EReal} {e2 : S1x1024.Idx → EReal}
    (h : HostOf kk A res x2 cb e2) {k : ℕ} (hk : Fin.ofNat 8 k = kk) (i : Fin 65536) : code res cb x2 e2 i = chosen A k res i := by
  subst hk
  have hw : row cb = word A k := funext fun j => funext fun d => h.cb_eq j d
  have he : (fun j => e2 (ix2 0 j)) = fun j => Cert.Rvq.sq (word A k j) := funext fun j => h.e2_eq j
  unfold code chosen pick
  rw [h.x2_eq, he, hw]
  rfl

/-- One stage: what the host gives it and what its launch leaves. -/
theorem StageOut.step {x : Rows} {A A' : Words} {k : ℕ} {kk : Fin 8} {x2 : S65536x1.Idx → EReal} {cb : S1024x256.Idx → EReal}
    {e2 : S1x1024.Idx → EReal} {res res0 zq : Rows} {codes : S65536x1.Idx → BitVec 32} {usage : S1x1024.Idx → EReal} {res' zq' : Rows}
    (h : StageOut x2 res zq cb e2 codes usage res' zq') (host : HostOf kk A' res0 x2 cb e2) (hk : Fin.ofNat 8 k = kk) (hA : A' = A)
    (hres : res = res0) (hr : res0 = resAt x A k) (hz : zq = sumAt x A k) : StepOut x A k codes usage res' zq' := by
  subst hA hres hr hz
  have hc : code (resAt x A' k) cb x2 e2 = codeAt x A' k := funext fun i => host.code_eq hk i
  have hw : ∀ j d, cb (ix2 j d) = word A' k j d := fun j d => by subst hk; exact host.cb_eq j d
  refine ⟨h.codes_eq.trans (by rw [hc]), h.usage_eq.trans (by rw [hc]), h.res_eq.trans ?_, h.zq_eq.trans ?_⟩
  · rw [hc]; funext j; exact congrArg _ (hw _ _)
  · rw [hc]; funext j; exact congrArg _ (hw _ _)

variable (m : (ℓ : Loc nD τ sig) → Buf (Elt Ideal) ℓ) (ρ : Dev nD → PrngReg) (c : Dev nD)

/-- The rows quantized. -/
abbrev xs : Rows := m ((c : Thread nD τ).loc main_arg0)

/-- The code words. -/
abbrev ws : Words := m ((c : Thread nD τ).loc main_arg1)

/-! ## The stages, one after the other -/

theorem step0 : StepOut (xs m c) (ws m c) 0 (W2 m ρ c (Proc.devRef .tc main_v9_0)) (W2 m ρ c (Proc.devRef .tc main_v9_1))
    (W2 m ρ c (Proc.devRef .tc main_v9_2)) (W2 m ρ c (Proc.devRef .tc main_v9_3)) := by
  have h := stage0 (V1 m ρ) c
  rw [← W2_arr m ρ c 5, ← W2_arr m ρ c 6, ← W2_arr m ρ c 7, ← W2_arr m ρ c 8] at h
  exact h.step (host0 (W0 m ρ c)) rfl rfl (W1_of m ρ c main_arg0 (by decide +kernel)) rfl (funext fun j => zeros0 (W0 m ρ c) j)

theorem step1 : StepOut (xs m c) (ws m c) 1 (W4 m ρ c (Proc.devRef .tc main_v18_0)) (W4 m ρ c (Proc.devRef .tc main_v18_1))
    (W4 m ρ c (Proc.devRef .tc main_v18_2)) (W4 m ρ c (Proc.devRef .tc main_v18_3)) := by
  have h := stage1 (V3 m ρ) c
  rw [← W4_arr m ρ c 5, ← W4_arr m ρ c 6, ← W4_arr m ρ c 7, ← W4_arr m ρ c 8] at h
  exact h.step (host1 (W2 m ρ c)) rfl (W2_args m ρ c main_arg1 (by decide +kernel)) (W3_of m ρ c main_v9_2 (by decide +kernel)) (step0 m ρ c).res_eq ((W3_of m ρ c main_v9_3 (by decide +kernel)).trans (step0 m ρ c).zq_eq)

theorem step2 : StepOut (xs m c) (ws m c) 2 (W6 m ρ c (Proc.devRef .tc main_v27_0)) (W6 m ρ c (Proc.devRef .tc main_v27_1))
    (W6 m ρ c (Proc.devRef .tc main_v27_2)) (W6 m ρ c (Proc.devRef .tc main_v27_3)) := by
  have h := stage2 (V5 m ρ) c
  rw [← W6_arr m ρ c 5, ← W6_arr m ρ c 6, ← W6_arr m ρ c 7, ← W6_arr m ρ c 8] at h
  exact h.step (host2 (W4 m ρ c)) rfl (W4_args m ρ c main_arg1 (by decide +kernel)) (W5_of m ρ c main_v18_2 (by decide +kernel)) (step1 m ρ c).res_eq ((W5_of m ρ c main_v18_3 (by decide +kernel)).trans (step1 m ρ c).zq_eq)

theorem step3 : StepOut (xs m c) (ws m c) 3 (W8 m ρ c (Proc.devRef .tc main_v36_0)) (W8 m ρ c (Proc.devRef .tc main_v36_1))
    (W8 m ρ c (Proc.devRef .tc main_v36_2)) (W8 m ρ c (Proc.devRef .tc main_v36_3)) := by
  have h := stage3 (V7 m ρ) c
  rw [← W8_arr m ρ c 5, ← W8_arr m ρ c 6, ← W8_arr m ρ c 7, ← W8_arr m ρ c 8] at h
  exact h.step (host3 (W6 m ρ c)) rfl (W6_args m ρ c main_arg1 (by decide +kernel)) (W7_of m ρ c main_v27_2 (by decide +kernel)) (step2 m ρ c).res_eq ((W7_of m ρ c main_v27_3 (by decide +kernel)).trans (step2 m ρ c).zq_eq)

theorem step4 : StepOut (xs m c) (ws m c) 4 (W10 m ρ c (Proc.devRef .tc main_v45_0)) (W10 m ρ c (Proc.devRef .tc main_v45_1))
    (W10 m ρ c (Proc.devRef .tc main_v45_2)) (W10 m ρ c (Proc.devRef .tc main_v45_3)) := by
  have h := stage4 (V9 m ρ) c
  rw [← W10_arr m ρ c 5, ← W10_arr m ρ c 6, ← W10_arr m ρ c 7, ← W10_arr m ρ c 8] at h
  exact h.step (host4 (W8 m ρ c)) rfl (W8_args m ρ c main_arg1 (by decide +kernel)) (W9_of m ρ c main_v36_2 (by decide +kernel)) (step3 m ρ c).res_eq ((W9_of m ρ c main_v36_3 (by decide +kernel)).trans (step3 m ρ c).zq_eq)

theorem step5 : StepOut (xs m c) (ws m c) 5 (W12 m ρ c (Proc.devRef .tc main_v54_0)) (W12 m ρ c (Proc.devRef .tc main_v54_1))
    (W12 m ρ c (Proc.devRef .tc main_v54_2)) (W12 m ρ c (Proc.devRef .tc main_v54_3)) := by
  have h := stage5 (V11 m ρ) c
  rw [← W12_arr m ρ c 5, ← W12_arr m ρ c 6, ← W12_arr m ρ c 7, ← W12_arr m ρ c 8] at h
  exact h.step (host5 (W10 m ρ c)) rfl (W10_args m ρ c main_arg1 (by decide +kernel)) (W11_of m ρ c main_v45_2 (by decide +kernel)) (step4 m ρ c).res_eq ((W11_of m ρ c main_v45_3 (by decide +kernel)).trans (step4 m ρ c).zq_eq)

theorem step6 : StepOut (xs m c) (ws m c) 6 (W14 m ρ c (Proc.devRef .tc main_v63_0)) (W14 m ρ c (Proc.devRef .tc main_v63_1))
    (W14 m ρ c (Proc.devRef .tc main_v63_2)) (W14 m ρ c (Proc.devRef .tc main_v63_3)) := by
  have h := stage6 (V13 m ρ) c
  rw [← W14_arr m ρ c 5, ← W14_arr m ρ c 6, ← W14_arr m ρ c 7, ← W14_arr m ρ c 8] at h
  exact h.step (host6 (W12 m ρ c)) rfl (W12_args m ρ c main_arg1 (by decide +kernel)) (W13_of m ρ c main_v54_2 (by decide +kernel)) (step5 m ρ c).res_eq ((W13_of m ρ c main_v54_3 (by decide +kernel)).trans (step5 m ρ c).zq_eq)

theorem step7 : StepOut (xs m c) (ws m c) 7 (W16 m ρ c (Proc.devRef .tc main_v72_0)) (W16 m ρ c (Proc.devRef .tc main_v72_1))
    (W16 m ρ c (Proc.devRef .tc main_v72_2)) (W16 m ρ c (Proc.devRef .tc main_v72_3)) := by
  have h := stage7 (V15 m ρ) c
  rw [← W16_arr m ρ c 6, ← W16_arr m ρ c 7, ← W16_arr m ρ c 8, ← W16_arr m ρ c 9] at h
  exact h.step (host7 (W14 m ρ c)) rfl (W14_args m ρ c main_arg1 (by decide +kernel)) (W15_of m ρ c main_v63_2 (by decide +kernel)) (step6 m ρ c).res_eq ((W15_of m ρ c main_v63_3 (by decide +kernel)).trans (step6 m ρ c).zq_eq)

/-! ## What a stage leaves is kept by those after it -/

/-- The codes and usages of the stages before stage 1. -/
abbrev olds1 : List (Ref sig .tc) := main_v9_0 :: main_v9_1 :: ([] : List (Ref sig .tc))

/-- The codes and usages of the stages before stage 2. -/
abbrev olds2 : List (Ref sig .tc) := main_v18_0 :: main_v18_1 :: olds1

/-- The codes and usages of the stages before stage 3. -/
abbrev olds3 : List (Ref sig .tc) := main_v27_0 :: main_v27_1 :: olds2

/-- The codes and usages of the stages before stage 4. -/
abbrev olds4 : List (Ref sig .tc) := main_v36_0 :: main_v36_1 :: olds3

/-- The codes and usages of the stages before stage 5. -/
abbrev olds5 : List (Ref sig .tc) := main_v45_0 :: main_v45_1 :: olds4

/-- The codes and usages of the stages before stage 6. -/
abbrev olds6 : List (Ref sig .tc) := main_v54_0 :: main_v54_1 :: olds5

/-- The codes and usages of the stages before stage 7. -/
abbrev olds7 : List (Ref sig .tc) := main_v63_0 :: main_v63_1 :: olds6

theorem kept7 : ∀ r ∈ olds7, W16 m ρ c (Proc.devRef .tc r) = W14 m ρ c (Proc.devRef .tc r) := fun r hr =>
  (W16_of m ρ c r (ListAll.forall_mem_of_all_decide (p := fun r => ∀ w : Fin cfg7.W, Pipeline.arrRef spec7 w = r → (cfg7.win w).isOut = false) (by decide +kernel) r hr)).trans (W15_of m ρ c r (ListAll.forall_mem_of_all_decide (p := fun r => r ∉ hostOps7_W) (by decide +kernel) r hr))

theorem kept6 : ∀ r ∈ olds6, W16 m ρ c (Proc.devRef .tc r) = W12 m ρ c (Proc.devRef .tc r) := fun r hr =>
  (kept7 m ρ c r (List.mem_cons_of_mem _ (List.mem_cons_of_mem _ hr))).trans ((W14_of m ρ c r (ListAll.forall_mem_of_all_decide (p := fun r => ∀ w : Fin cfg6.W, Pipeline.arrRef spec6 w = r → (cfg6.win w).isOut = false) (by decide +kernel) r hr)).trans (W13_of m ρ c r (ListAll.forall_mem_of_all_decide (p := fun r => r ∉ hostOps6_W) (by decide +kernel) r hr)))

theorem kept5 : ∀ r ∈ olds5, W16 m ρ c (Proc.devRef .tc r) = W10 m ρ c (Proc.devRef .tc r) := fun r hr =>
  (kept6 m ρ c r (List.mem_cons_of_mem _ (List.mem_cons_of_mem _ hr))).trans ((W12_of m ρ c r (ListAll.forall_mem_of_all_decide (p := fun r => ∀ w : Fin cfg5.W, Pipeline.arrRef spec5 w = r → (cfg5.win w).isOut = false) (by decide +kernel) r hr)).trans (W11_of m ρ c r (ListAll.forall_mem_of_all_decide (p := fun r => r ∉ hostOps5_W) (by decide +kernel) r hr)))

theorem kept4 : ∀ r ∈ olds4, W16 m ρ c (Proc.devRef .tc r) = W8 m ρ c (Proc.devRef .tc r) := fun r hr =>
  (kept5 m ρ c r (List.mem_cons_of_mem _ (List.mem_cons_of_mem _ hr))).trans ((W10_of m ρ c r (ListAll.forall_mem_of_all_decide (p := fun r => ∀ w : Fin cfg4.W, Pipeline.arrRef spec4 w = r → (cfg4.win w).isOut = false) (by decide +kernel) r hr)).trans (W9_of m ρ c r (ListAll.forall_mem_of_all_decide (p := fun r => r ∉ hostOps4_W) (by decide +kernel) r hr)))

theorem kept3 : ∀ r ∈ olds3, W16 m ρ c (Proc.devRef .tc r) = W6 m ρ c (Proc.devRef .tc r) := fun r hr =>
  (kept4 m ρ c r (List.mem_cons_of_mem _ (List.mem_cons_of_mem _ hr))).trans ((W8_of m ρ c r (ListAll.forall_mem_of_all_decide (p := fun r => ∀ w : Fin cfg3.W, Pipeline.arrRef spec3 w = r → (cfg3.win w).isOut = false) (by decide +kernel) r hr)).trans (W7_of m ρ c r (ListAll.forall_mem_of_all_decide (p := fun r => r ∉ hostOps3_W) (by decide +kernel) r hr)))

theorem kept2 : ∀ r ∈ olds2, W16 m ρ c (Proc.devRef .tc r) = W4 m ρ c (Proc.devRef .tc r) := fun r hr =>
  (kept3 m ρ c r (List.mem_cons_of_mem _ (List.mem_cons_of_mem _ hr))).trans ((W6_of m ρ c r (ListAll.forall_mem_of_all_decide (p := fun r => ∀ w : Fin cfg2.W, Pipeline.arrRef spec2 w = r → (cfg2.win w).isOut = false) (by decide +kernel) r hr)).trans (W5_of m ρ c r (ListAll.forall_mem_of_all_decide (p := fun r => r ∉ hostOps2_W) (by decide +kernel) r hr)))

theorem kept1 : ∀ r ∈ olds1, W16 m ρ c (Proc.devRef .tc r) = W2 m ρ c (Proc.devRef .tc r) := fun r hr =>
  (kept2 m ρ c r (List.mem_cons_of_mem _ (List.mem_cons_of_mem _ hr))).trans ((W4_of m ρ c r (ListAll.forall_mem_of_all_decide (p := fun r => ∀ w : Fin cfg1.W, Pipeline.arrRef spec1 w = r → (cfg1.win w).isOut = false) (by decide +kernel) r hr)).trans (W3_of m ρ c r (ListAll.forall_mem_of_all_decide (p := fun r => r ∉ hostOps1_W) (by decide +kernel) r hr)))

/-! ## The five results -/

theorem codes17 : W17 m ρ c (Proc.devRef .tc main_v73) = fun j => BitVec.ofNat 32 (codeAt (xs m c) (ws m c) (j 1).val (j 0)) := by
  funext j
  obtain ⟨i, k, rfl⟩ := exists_ix2 j
  exact codes8 (W := W16 m ρ c) (fun k j => BitVec.ofNat 32 (codeAt (xs m c) (ws m c) k.val (j 0)))
    ((kept1 m ρ c main_v9_0 (by simp)).trans (step0 m ρ c).codes_eq) ((kept2 m ρ c main_v18_0 (by simp)).trans (step1 m ρ c).codes_eq) ((kept3 m ρ c main_v27_0 (by simp)).trans (step2 m ρ c).codes_eq) ((kept4 m ρ c main_v36_0 (by simp)).trans (step3 m ρ c).codes_eq) ((kept5 m ρ c main_v45_0 (by simp)).trans (step4 m ρ c).codes_eq) ((kept6 m ρ c main_v54_0 (by simp)).trans (step5 m ρ c).codes_eq) ((kept7 m ρ c main_v63_0 (by simp)).trans (step6 m ρ c).codes_eq) (step7 m ρ c).codes_eq i k

theorem usage17 : W17 m ρ c (Proc.devRef .tc main_v74) = fun j => codeCount (codeAt (xs m c) (ws m c) (j 0).val) (j 1) * Ideal.ofBits .f32 0x37800000#32 := by
  funext j
  obtain ⟨k, i, rfl⟩ := exists_ix2 j
  exact usage8 (W := W16 m ρ c) (fun k j => codeCount (codeAt (xs m c) (ws m c) k.val) (j 1) * Ideal.ofBits .f32 0x37800000#32)
    ((kept1 m ρ c main_v9_1 (by simp)).trans (step0 m ρ c).usage_eq) ((kept2 m ρ c main_v18_1 (by simp)).trans (step1 m ρ c).usage_eq) ((kept3 m ρ c main_v27_1 (by simp)).trans (step2 m ρ c).usage_eq) ((kept4 m ρ c main_v36_1 (by simp)).trans (step3 m ρ c).usage_eq) ((kept5 m ρ c main_v45_1 (by simp)).trans (step4 m ρ c).usage_eq) ((kept6 m ρ c main_v54_1 (by simp)).trans (step5 m ρ c).usage_eq) ((kept7 m ρ c main_v63_1 (by simp)).trans (step6 m ρ c).usage_eq) (step7 m ρ c).usage_eq k i

theorem res17 : W17 m ρ c (Proc.devRef .tc main_v72_2) = resAt (xs m c) (ws m c) 8 :=
  (W17_of m ρ c main_v72_2 (by decide +kernel)).trans (step7 m ρ c).res_eq

theorem sum17 : W17 m ρ c (Proc.devRef .tc main_v72_3) = sumAt (xs m c) (ws m c) 8 :=
  (W17_of m ρ c main_v72_3 (by decide +kernel)).trans (step7 m ρ c).zq_eq

theorem rowLoss_sum (z x : Rows) : (∑ I : Fin 65536, rowLoss z x I)
    = ∑ i : Fin 65536, ∑ d : Fin 256, (z (ix2 i d) - x (ix2 i d)) * (z (ix2 i d) - x (ix2 i d)) :=
  Finset.sum_congr rfl fun _ _ => rfl

theorem loss16 : W16 m ρ c (Proc.devRef .tc main_v72_4) = fun _ => errAt (xs m c) (ws m c) * Ideal.ofBits .f32 0x33800000#32 := by
  have h : W16 m ρ c (Proc.devRef .tc main_v72_4) = _ := (W16_arr m ρ c 10).trans (loss7 (V15 m ρ) c)
  have h9 : (dat7 (V15 m ρ) c).arrAt 9 cfg7.N = sumAt (xs m c) (ws m c) 8 := (W16_arr m ρ c 9).symm.trans (step7 m ρ c).zq_eq
  have hx : V15 m ρ c main_arg0 = xs m c := W15_args m ρ c main_arg0 (by decide +kernel)
  rw [h, h9, hx, rowLoss_sum]
  rfl

theorem loss17 : W17 m ρ c (Proc.devRef .tc main_v75) = fun _ => errAt (xs m c) (ws m c) * Ideal.ofBits .f32 0x33800000#32 := by
  have h : W17 m ρ c (Proc.devRef .tc main_v75) = fun _ => W16 m ρ c (Proc.devRef .tc main_v72_4) (ix2 0 0) := loss8 (W16 m ρ c)
  rw [h, loss16]

end Cert.KernelIdeal.Val
-- ==== Proof.Run.lean ====
/- The kernel's run: every buffer ends at the last boundary's contents. -/
module

public import proofs.«01_k».proof.Proof.Gen.KernelIdeal.Frame
public import proofs.«01_k».proof.Proof.Chain

@[expose] public section

set_option maxRecDepth 16384

noncomputable section

namespace Cert.KernelIdeal.Val

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Rvq

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
theorem run17 : θ_run defs (onTc (τ := τ) (main (F := Ideal))) ⟨m, fun _ => 0, ρ⟩ (fun r =>
    ∀ (c : Dev nD) (b : Ref sig .tc), ¬(Proc.devRef .tc b : DevRef τ sig).isScoped → r.2.mem ((c.tc : Thread nD τ).loc b) = W17 m ρ c (Proc.devRef .tc b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h _ c b hb => h c _ (mem_uc b hb))

theorem results : θ_run defs (onTc (τ := τ) (main (F := Ideal))) ⟨m, fun _ => 0, ρ⟩ (fun r => ∀ c : Dev nD,
      r.2.mem ((c.tc : Thread nD τ).loc main_v73) = (fun j => BitVec.ofNat 32 (codeAt (xs m c) (ws m c) (j 1).val (j 0)))
      ∧ r.2.mem ((c.tc : Thread nD τ).loc main_v72_3) = sumAt (xs m c) (ws m c) 8
      ∧ r.2.mem ((c.tc : Thread nD τ).loc main_v72_2) = resAt (xs m c) (ws m c) 8
      ∧ r.2.mem ((c.tc : Thread nD τ).loc main_v75) = (fun _ => errAt (xs m c) (ws m c) * Ideal.ofBits .f32 0x33800000#32)
      ∧ r.2.mem ((c.tc : Thread nD τ).loc main_v74) = (fun j => codeCount (codeAt (xs m c) (ws m c) (j 0).val) (j 1) * Ideal.ofBits .f32 0x37800000#32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c main_v73 (by decide)).trans (codes17 m ρ c), (h c main_v72_3 (by decide)).trans (sum17 m ρ c),
     (h c main_v72_2 (by decide)).trans (res17 m ρ c), (h c main_v75 (by decide)).trans (loss17 m ρ c),
     (h c main_v74 (by decide)).trans (usage17 m ρ c), (h c main_arg0 (by decide)).trans (W17_main_arg0 m ρ c),
     (h c main_arg1 (by decide)).trans (W17_main_arg1 m ρ c)⟩) (run17 m ρ)

end Cert.KernelIdeal.Val
-- ==== Proof.RefRun.lean ====
/- The reference's run: its host operations in lists, its counted loop, and what every buffer holds after it. -/
module

public import proofs.«01_k».proof.Proof.Gen.ReferenceIdeal
public import Idealize.ShloMosaic.Lib.StableHlo.RunLoop
public import Idealize.ShloMosaic.Lib.StableHlo.ReadAt
public import Idealize.ShloMosaic.PureOps.Ideal

@[expose] public section

set_option maxRecDepth 16384
set_option maxHeartbeats 2000000

noncomputable section

namespace Cert.ReferenceIdeal.Val

open Idealize.ShloMosaic Idealize.ShloMosaic.TcCoe Idealize.SL.Sem
open Cert.ReferenceIdeal.Gen

variable {F : FTy → Type} [FloatOps F]

/-- The codebook of the trip cut out. -/
abbrev pickOps : List (HloOp τ sig (Elt F)) :=
  [ StableHlo.TRef.nullary main_while0b_call0.c (constantI S_ 32 0#32),
    StableHlo.TRef.nullary main_while0b_call0.c_0 (constantI S_ 32 0#32),
    StableHlo.TRef.unaryIndexed (.of main_v3_0 : StableHlo.TRef sig ⟨S8x1024x256, .f32⟩) ![(.of main_v3_1 : StableHlo.TRef sig ⟨S_, .i32⟩), main_while0b_call0.c, main_while0b_call0.c_0] main_while0b_call0.v0 (fun x i => Host.dynamicSlice S1x1024x256 x (fun k => (i k (Shape.Idx.first h_S_)).toInt) sliceFits_S8x1024x256_S1x1024x256),
    StableHlo.TRef.reshape main_while0b_call0.v0 main_while0b_call0.v1 (rfl : (.f32 : EltTy) = .f32) shapeCasts_S1x1024x256_S1024x256 ]

theorem pickOps_sub : (pickOps : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

/-- The distances of every row to every word. -/
abbrev distOps : List (HloOp τ sig (Elt F)) :=
  [ StableHlo.binary main_v3_2 main_v3_2 main_while0b_v16 (mulf : (⟨S65536x256, .f32⟩ : BufTy).Contents (Elt F) → (⟨S65536x256, .f32⟩ : BufTy).Contents (Elt F) → (⟨S65536x256, .f32⟩ : BufTy).Contents (Elt F)),
    StableHlo.nullary main_while0b_cst_11 (constant S_ .f32 0x00000000#32),
    StableHlo.binary main_while0b_v16 main_while0b_cst_11 main_while0b_v17 ((fun x v => Host.reduceAdd x v reducesTo_S65536x256_S65536_d1 h_S_) : (⟨S65536x256, .f32⟩ : BufTy).Contents (Elt F) → (⟨S_, .f32⟩ : BufTy).Contents (Elt F) → (⟨S65536, .f32⟩ : BufTy).Contents (Elt F)),
    StableHlo.unary main_while0b_v17 main_while0b_v18 (broadcastInDim S65536x1 ![0] bcast_S65536_S65536x1_0 : (⟨S65536, .f32⟩ : BufTy).Contents (Elt F) → (⟨S65536x1, .f32⟩ : BufTy).Contents (Elt F)),
    StableHlo.binary main_while0b_v15 main_while0b_v15 main_while0b_v19 (mulf : (⟨S1024x256, .f32⟩ : BufTy).Contents (Elt F) → (⟨S1024x256, .f32⟩ : BufTy).Contents (Elt F) → (⟨S1024x256, .f32⟩ : BufTy).Contents (Elt F)),
    StableHlo.nullary main_while0b_cst_12 (constant S_ .f32 0x00000000#32),
    StableHlo.binary main_while0b_v19 main_while0b_cst_12 main_while0b_v20 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    StableHlo.unary main_while0b_v20 main_while0b_v21 (broadcastInDim S1x1024 ![1] bcast_S1024_S1x1024_1 : (⟨S1024, .f32⟩ : BufTy).Contents (Elt F) → (⟨S1x1024, .f32⟩ : BufTy).Contents (Elt F)),
    StableHlo.unary main_while0b_v18 main_while0b_v22 (broadcastInDim S65536x1024 ![0, 1] bcast_S65536x1_S65536x1024_0_1 : (⟨S65536x1, .f32⟩ : BufTy).Contents (Elt F) → (⟨S65536x1024, .f32⟩ : BufTy).Contents (Elt F)),
    StableHlo.unary main_while0b_v21 main_while0b_v23 (broadcastInDim S65536x1024 ![0, 1] bcast_S1x1024_S65536x1024_0_1 : (⟨S1x1024, .f32⟩ : BufTy).Contents (Elt F) → (⟨S65536x1024, .f32⟩ : BufTy).Contents (Elt F)),
    StableHlo.binary main_while0b_v22 main_while0b_v23 main_while0b_v24 (addf : (⟨S65536x1024, .f32⟩ : BufTy).Contents (Elt F) → (⟨S65536x1024, .f32⟩ : BufTy).Contents (Elt F) → (⟨S65536x1024, .f32⟩ : BufTy).Contents (Elt F)),
    StableHlo.unary main_while0b_v15 main_while0b_v25 ((transpose S256x1024 [1, 0] · transposes_S1024x256_S256x1024_1_0) : (⟨S1024x256, .f32⟩ : BufTy).Contents (Elt F) → (⟨S256x1024, .f32⟩ : BufTy).Contents (Elt F)),
    StableHlo.binary main_v3_2 main_while0b_v25 main_while0b_v26 ((fun l r => Host.dotGeneral dot_S65536x256_S256x1024_S65536x1024_1_0_0_1_n_n none l r) : (⟨S65536x256, .f32⟩ : BufTy).Contents (Elt F) → (⟨S256x1024, .f32⟩ : BufTy).Contents (Elt F) → (⟨S65536x1024, .f32⟩ : BufTy).Contents (Elt F)),
    StableHlo.nullary main_while0b_cst_13 (constant S_ .f32 0x40000000#32),
    StableHlo.unary main_while0b_cst_13 main_while0b_v27 (broadcastInDim S65536x1024 ![] bcast_S_S65536x1024 : (⟨S_, .f32⟩ : BufTy).Contents (Elt F) → (⟨S65536x1024, .f32⟩ : BufTy).Contents (Elt F)),
    StableHlo.binary main_while0b_v27 main_while0b_v26 main_while0b_v28 (mulf : (⟨S65536x1024, .f32⟩ : BufTy).Contents (Elt F) → (⟨S65536x1024, .f32⟩ : BufTy).Contents (Elt F) → (⟨S65536x1024, .f32⟩ : BufTy).Contents (Elt F)),
    StableHlo.binary main_while0b_v24 main_while0b_v28 main_while0b_v29 (subf : (⟨S65536x1024, .f32⟩ : BufTy).Contents (Elt F) → (⟨S65536x1024, .f32⟩ : BufTy).Contents (Elt F) → (⟨S65536x1024, .f32⟩ : BufTy).Contents (Elt F)) ]

theorem distOps_sub : (distOps : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub ..⟩

/-- The first nearest word of each row. -/
abbrev argminOps : List (HloOp τ sig (Elt F)) :=
  [ StableHlo.TRef.nullary main_while0b_call1.v0 (iotaInDim S65536x1024 32 1),
    StableHlo.TRef.nullary main_while0b_call1.cst (constant S_ .f32 0x7F800000#32),
    StableHlo.TRef.nullary main_while0b_call1.c (constantI S_ 32 0#32),
    StableHlo.TRef.quaternary (.of main_while0b_v29 : StableHlo.TRef sig ⟨S65536x1024, .f32⟩) main_while0b_call1.v0 main_while0b_call1.cst main_while0b_call1.c main_while0b_call1.v1_0 (fun x y u v j => (Host.argReduce reducer_argmin_f32_i32 x y u v reducesTo_S65536x1024_S65536_d1 h_S_ j).1),
    StableHlo.TRef.quaternary (.of main_while0b_v29 : StableHlo.TRef sig ⟨S65536x1024, .f32⟩) main_while0b_call1.v0 main_while0b_call1.cst main_while0b_call1.c main_while0b_call1.v1_1 (fun x y u v j => (Host.argReduce reducer_argmin_f32_i32 x y u v reducesTo_S65536x1024_S65536_d1 h_S_ j).2) ]

theorem argminOps_sub : (argminOps : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

/-- The chosen words gathered, the residual and the sum moved on. -/
abbrev rowOps : List (HloOp τ sig (Elt F)) :=
  [ StableHlo.nullary main_while0b_c_14 (constantI S_ 32 0#32),
    StableHlo.unary main_while0b_c_14 main_while0b_v31 (broadcastInDim S65536 ![] bcast_S_S65536 : (⟨S_, .i32⟩ : BufTy).Contents (Elt F) → (⟨S65536, .i32⟩ : BufTy).Contents (Elt F)),
    StableHlo.binary main_while0b_v30 main_while0b_v31 main_while0b_v32 (cmpi .slt : (⟨S65536, .i32⟩ : BufTy).Contents (Elt F) → (⟨S65536, .i32⟩ : BufTy).Contents (Elt F) → (⟨S65536, .i1⟩ : BufTy).Contents (Elt F)),
    StableHlo.nullary main_while0b_c_15 (constantI S_ 32 1024#32),
    StableHlo.unary main_while0b_c_15 main_while0b_v33 (broadcastInDim S65536 ![] bcast_S_S65536 : (⟨S_, .i32⟩ : BufTy).Contents (Elt F) → (⟨S65536, .i32⟩ : BufTy).Contents (Elt F)),
    StableHlo.binary main_while0b_v30 main_while0b_v33 main_while0b_v34 (addi : (⟨S65536, .i32⟩ : BufTy).Contents (Elt F) → (⟨S65536, .i32⟩ : BufTy).Contents (Elt F) → (⟨S65536, .i32⟩ : BufTy).Contents (Elt F)),
    StableHlo.ternary main_while0b_v32 main_while0b_v34 main_while0b_v30 main_while0b_v35 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_while0b_v35 main_while0b_v36 (broadcastInDim S65536x1 ![0] bcast_S65536_S65536x1_0 : (⟨S65536, .i32⟩ : BufTy).Contents (Elt F) → (⟨S65536x1, .i32⟩ : BufTy).Contents (Elt F)),
    StableHlo.binary main_while0b_v15 main_while0b_v36 main_while0b_v37 ((fun x i => Host.gather gather_S1024x256_S65536x1_S65536x256_1_0_n_n_0_1_1256 x i) : (⟨S1024x256, .f32⟩ : BufTy).Contents (Elt F) → (⟨S65536x1, .i32⟩ : BufTy).Contents (Elt F) → (⟨S65536x256, .f32⟩ : BufTy).Contents (Elt F)),
    StableHlo.binary main_v3_2 main_while0b_v37 main_while0b_v38 (subf : (⟨S65536x256, .f32⟩ : BufTy).Contents (Elt F) → (⟨S65536x256, .f32⟩ : BufTy).Contents (Elt F) → (⟨S65536x256, .f32⟩ : BufTy).Contents (Elt F)),
    StableHlo.binary main_v3_3 main_while0b_v37 main_while0b_v39 (addf : (⟨S65536x256, .f32⟩ : BufTy).Contents (Elt F) → (⟨S65536x256, .f32⟩ : BufTy).Contents (Elt F) → (⟨S65536x256, .f32⟩ : BufTy).Contents (Elt F)),
    StableHlo.nullary main_while0b_c_16 (constantI S_ 32 0#32),
    StableHlo.unary main_while0b_c_16 main_while0b_v40 (broadcastInDim S1024 ![] bcast_S_S1024 : (⟨S_, .i32⟩ : BufTy).Contents (Elt F) → (⟨S1024, .i32⟩ : BufTy).Contents (Elt F)),
    StableHlo.nullary main_while0b_c_17 (constantI S_ 32 0#32) ]

theorem rowOps_sub : (rowOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.nullary_bufs_sub .., StableHlo.unary_bufs_sub .., StableHlo.nullary_bufs_sub ..⟩

/-- The codes clipped below at zero. -/
abbrev clipOps : List (HloOp τ sig (Elt F)) :=
  [ StableHlo.TRef.unary (.of main_while0b_c_17 : StableHlo.TRef sig ⟨S_, .i32⟩) main_while0b_call2.v0 id,
    StableHlo.TRef.unary main_while0b_call2.v0 main_while0b_call2.v1 (broadcastInDim S65536 ![] bcast_S_S65536),
    StableHlo.TRef.binary main_while0b_call2.v1 (.of main_while0b_v30 : StableHlo.TRef sig ⟨S65536, .i32⟩) main_while0b_call2.v2 maxsi ]

theorem clipOps_sub : (clipOps : List (HloOp τ sig (Elt F))).Forall fun op => op.bufs ⊆ StableHlo.tcRefs τ sig :=
  ⟨StableHlo.unary_bufs_sub .., StableHlo.unary_bufs_sub .., StableHlo.binary_bufs_sub ..⟩

/-- The count of each code. -/
abbrev countOps : List (HloOp τ sig (Elt F)) :=
  [ StableHlo.nullary main_while0b_c_18 (constantI S_ 32 0#32),
    StableHlo.unary main_while0b_c_18 main_while0b_v42 (broadcastInDim S65536 ![] bcast_S_S65536 : (⟨S_, .i32⟩ : BufTy).Contents (Elt F) → (⟨S65536, .i32⟩ : BufTy).Contents (Elt F)),
    StableHlo.binary main_while0b_v41 main_while0b_v42 main_while0b_v43 (cmpi .slt : (⟨S65536, .i32⟩ : BufTy).Contents (Elt F) → (⟨S65536, .i32⟩ : BufTy).Contents (Elt F) → (⟨S65536, .i1⟩ : BufTy).Contents (Elt F)),
    StableHlo.nullary main_while0b_c_19 (constantI S_ 32 1024#32),
    StableHlo.unary main_while0b_c_19 main_while0b_v44 (broadcastInDim S65536 ![] bcast_S_S65536 : (⟨S_, .i32⟩ : BufTy).Contents (Elt F) → (⟨S65536, .i32⟩ : BufTy).Contents (Elt F)),
    StableHlo.binary main_while0b_v41 main_while0b_v44 main_while0b_v45 (addi : (⟨S65536, .i32⟩ : BufTy).Contents (Elt F) → (⟨S65536, .i32⟩ : BufTy).Contents (Elt F) → (⟨S65536, .i32⟩ : BufTy).Contents (Elt F)),
    StableHlo.ternary main_while0b_v43 main_while0b_v45 main_while0b_v41 main_while0b_v46 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_while0b_v46 main_while0b_v47 (broadcastInDim S65536x1 ![0] bcast_S65536_S65536x1_0 : (⟨S65536, .i32⟩ : BufTy).Contents (Elt F) → (⟨S65536x1, .i32⟩ : BufTy).Contents (Elt F)),
    StableHlo.nullary main_while0b_c_20 (constantI S_ 32 1#32),
    StableHlo.unary main_while0b_c_20 main_while0b_v48 (broadcastInDim S65536 ![] bcast_S_S65536 : (⟨S_, .i32⟩ : BufTy).Contents (Elt F) → (⟨S65536, .i32⟩ : BufTy).Contents (Elt F)),
    StableHlo.ternary main_while0b_v40 main_while0b_v47 main_while0b_v48 main_while0b_v49 ((fun x i u => Host.scatter scatter_S1024_S65536x1_S65536_n_0_0_1 IntOp.addi x i u) : (⟨S1024, .i32⟩ : BufTy).Contents (Elt F) → (⟨S65536x1, .i32⟩ : BufTy).Contents (Elt F) → (⟨S65536, .i32⟩ : BufTy).Contents (Elt F) → (⟨S1024, .i32⟩ : BufTy).Contents (Elt F)) ]

theorem countOps_sub : (countOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub ..⟩

/-- The codes written into their row. -/
abbrev codeRowOps : List (HloOp τ sig (Elt F)) :=
  [ StableHlo.TRef.unary (.of main_while0b_v30 : StableHlo.TRef sig ⟨S65536, .i32⟩) main_while0b_call3.v0 (broadcastInDim S1x65536 ![1] bcast_S65536_S1x65536_1),
    StableHlo.TRef.nullary main_while0b_call3.c (constantI S_ 32 0#32),
    StableHlo.TRef.binaryIndexed (.of main_v3_4 : StableHlo.TRef sig ⟨S8x65536, .i32⟩) main_while0b_call3.v0 ![(.of main_v3_1 : StableHlo.TRef sig ⟨S_, .i32⟩), main_while0b_call3.c] main_while0b_call3.v1 (fun x u i => Host.dynamicUpdateSlice x u (fun k => (i k (Shape.Idx.first h_S_)).toInt) updateFits_S8x65536_S1x65536) ]

theorem codeRowOps_sub : (codeRowOps : List (HloOp τ sig (Elt F))).Forall fun op => op.bufs ⊆ StableHlo.tcRefs τ sig :=
  ⟨StableHlo.unary_bufs_sub .., StableHlo.nullary_bufs_sub .., StableHlo.binaryIndexed_bufs_sub ..⟩

/-- The counts written into their row. -/
abbrev countRowOps : List (HloOp τ sig (Elt F)) :=
  [ StableHlo.TRef.unary (.of main_while0b_v49 : StableHlo.TRef sig ⟨S1024, .i32⟩) main_while0b_call4.v0 (broadcastInDim S1x1024 ![1] bcast_S1024_S1x1024_1),
    StableHlo.TRef.nullary main_while0b_call4.c (constantI S_ 32 0#32),
    StableHlo.TRef.binaryIndexed (.of main_v3_5 : StableHlo.TRef sig ⟨S8x1024, .i32⟩) main_while0b_call4.v0 ![(.of main_v3_1 : StableHlo.TRef sig ⟨S_, .i32⟩), main_while0b_call4.c] main_while0b_call4.v1 (fun x u i => Host.dynamicUpdateSlice x u (fun k => (i k (Shape.Idx.first h_S_)).toInt) updateFits_S8x1024_S1x1024) ]

theorem countRowOps_sub : (countRowOps : List (HloOp τ sig (Elt F))).Forall fun op => op.bufs ⊆ StableHlo.tcRefs τ sig :=
  ⟨StableHlo.unary_bufs_sub .., StableHlo.nullary_bufs_sub .., StableHlo.binaryIndexed_bufs_sub ..⟩

/-- The counter stepped and the carried values written back. -/
abbrev nextOps : List (HloOp τ sig (Elt F)) :=
  [ StableHlo.nullary main_while0b_c_21 (constantI S_ 32 1#32),
    StableHlo.binary main_v3_1 main_while0b_c_21 main_while0b_v52 (addi : (⟨S_, .i32⟩ : BufTy).Contents (Elt F) → (⟨S_, .i32⟩ : BufTy).Contents (Elt F) → (⟨S_, .i32⟩ : BufTy).Contents (Elt F)),
    StableHlo.unary main_while0b_v52 main_v3_1 id,
    StableHlo.unary main_while0b_v38 main_v3_2 id,
    StableHlo.unary main_while0b_v39 main_v3_3 id,
    StableHlo.unary main_while0b_v50 main_v3_4 id,
    StableHlo.unary main_while0b_v51 main_v3_5 id ]

theorem nextOps_sub : (nextOps : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub ..⟩

/-- @main before the loop. -/
abbrev preOps : List (HloOp τ sig (Elt F)) :=
  [ StableHlo.nullary main_cst (constant S_ .f32 0x00000000#32),
    StableHlo.unary main_cst main_v0 (broadcastInDim S65536x256 ![] bcast_S_S65536x256 : (⟨S_, .f32⟩ : BufTy).Contents (Elt F) → (⟨S65536x256, .f32⟩ : BufTy).Contents (Elt F)),
    StableHlo.nullary main_c (constantI S_ 32 0#32),
    StableHlo.unary main_c main_v1 (broadcastInDim S8x65536 ![] bcast_S_S8x65536 : (⟨S_, .i32⟩ : BufTy).Contents (Elt F) → (⟨S8x65536, .i32⟩ : BufTy).Contents (Elt F)),
    StableHlo.nullary main_c_0 (constantI S_ 32 0#32),
    StableHlo.unary main_c_0 main_v2 (broadcastInDim S8x1024 ![] bcast_S_S8x1024 : (⟨S_, .i32⟩ : BufTy).Contents (Elt F) → (⟨S8x1024, .i32⟩ : BufTy).Contents (Elt F)),
    StableHlo.nullary main_c_1 (constantI S_ 32 0#32),
    StableHlo.unary main_arg1 main_v3_0 id,
    StableHlo.unary main_c_1 main_v3_1 id,
    StableHlo.unary main_arg0 main_v3_2 id,
    StableHlo.unary main_v0 main_v3_3 id,
    StableHlo.unary main_v1 main_v3_4 id,
    StableHlo.unary main_v2 main_v3_5 id ]

theorem preOps_sub : (preOps : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩

/-- @main after the loop: the codes, the loss and the counts as floats. -/
abbrev postOps : List (HloOp τ sig (Elt F)) :=
  [ StableHlo.unary main_v3_4 main_v4 ((transpose S65536x8 [1, 0] · transposes_S8x65536_S65536x8_1_0) : (⟨S8x65536, .i32⟩ : BufTy).Contents (Elt F) → (⟨S65536x8, .i32⟩ : BufTy).Contents (Elt F)),
    StableHlo.binary main_v3_3 main_arg0 main_v5 (subf : (⟨S65536x256, .f32⟩ : BufTy).Contents (Elt F) → (⟨S65536x256, .f32⟩ : BufTy).Contents (Elt F) → (⟨S65536x256, .f32⟩ : BufTy).Contents (Elt F)),
    StableHlo.binary main_v5 main_v5 main_v6 (mulf : (⟨S65536x256, .f32⟩ : BufTy).Contents (Elt F) → (⟨S65536x256, .f32⟩ : BufTy).Contents (Elt F) → (⟨S65536x256, .f32⟩ : BufTy).Contents (Elt F)),
    StableHlo.nullary main_cst_2 (constant S_ .f32 0x00000000#32),
    StableHlo.binary main_v6 main_cst_2 main_v7 ((fun x v => Host.reduceAdd x v reducesTo_S65536x256_S_d0_1 h_S_) : (⟨S65536x256, .f32⟩ : BufTy).Contents (Elt F) → (⟨S_, .f32⟩ : BufTy).Contents (Elt F) → (⟨S_, .f32⟩ : BufTy).Contents (Elt F)),
    StableHlo.nullary main_cst_3 (constant S_ .f32 0x4B800000#32),
    StableHlo.binary main_v7 main_cst_3 main_v8 (Host.divf : (⟨S_, .f32⟩ : BufTy).Contents (Elt F) → (⟨S_, .f32⟩ : BufTy).Contents (Elt F) → (⟨S_, .f32⟩ : BufTy).Contents (Elt F)),
    StableHlo.unary main_v3_5 main_v9 (sitofp .f32 : (⟨S8x1024, .i32⟩ : BufTy).Contents (Elt F) → (⟨S8x1024, .f32⟩ : BufTy).Contents (Elt F)),
    StableHlo.nullary main_cst_4 (constant S_ .f32 0x00000000#32),
    StableHlo.binary main_v9 main_cst_4 main_v10 ((fun x v => Host.reduceAdd x v reducesTo_S8x1024_S8_d1 h_S_) : (⟨S8x1024, .f32⟩ : BufTy).Contents (Elt F) → (⟨S_, .f32⟩ : BufTy).Contents (Elt F) → (⟨S8, .f32⟩ : BufTy).Contents (Elt F)),
    StableHlo.unary main_v10 main_v11 (broadcastInDim S8x1 ![0] bcast_S8_S8x1_0 : (⟨S8, .f32⟩ : BufTy).Contents (Elt F) → (⟨S8x1, .f32⟩ : BufTy).Contents (Elt F)),
    StableHlo.nullary main_cst_5 (constant S_ .f32 0x3F800000#32) ]

theorem postOps_sub : (postOps : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.binary_bufs_sub .., StableHlo.nullary_bufs_sub .., StableHlo.binary_bufs_sub .., StableHlo.unary_bufs_sub .., StableHlo.nullary_bufs_sub .., StableHlo.binary_bufs_sub .., StableHlo.unary_bufs_sub .., StableHlo.nullary_bufs_sub ..⟩

/-- The totals clamped below at one. -/
abbrev clampOps : List (HloOp τ sig (Elt F)) :=
  [ StableHlo.TRef.unary (.of main_cst_5 : StableHlo.TRef sig ⟨S_, .f32⟩) main_call5.v0 id,
    StableHlo.TRef.unary main_call5.v0 main_call5.v1 (broadcastInDim S8x1 ![] bcast_S_S8x1),
    StableHlo.TRef.binary main_call5.v1 (.of main_v11 : StableHlo.TRef sig ⟨S8x1, .f32⟩) main_call5.v2 maximumf ]

theorem clampOps_sub : (clampOps : List (HloOp τ sig (Elt F))).Forall fun op => op.bufs ⊆ StableHlo.tcRefs τ sig :=
  ⟨StableHlo.unary_bufs_sub .., StableHlo.unary_bufs_sub .., StableHlo.binary_bufs_sub ..⟩

/-- The counts over the totals. -/
abbrev shareOps : List (HloOp τ sig (Elt F)) :=
  [ StableHlo.unary main_v12 main_v13 (broadcastInDim S8x1024 ![0, 1] bcast_S8x1_S8x1024_0_1 : (⟨S8x1, .f32⟩ : BufTy).Contents (Elt F) → (⟨S8x1024, .f32⟩ : BufTy).Contents (Elt F)),
    StableHlo.binary main_v9 main_v13 main_v14 (Host.divf : (⟨S8x1024, .f32⟩ : BufTy).Contents (Elt F) → (⟨S8x1024, .f32⟩ : BufTy).Contents (Elt F) → (⟨S8x1024, .f32⟩ : BufTy).Contents (Elt F)) ]

theorem shareOps_sub : (shareOps : List (HloOp τ sig (Elt F))).Forall fun op => op.bufs ⊆ StableHlo.tcRefs τ sig :=
  ⟨StableHlo.unary_bufs_sub .., StableHlo.binary_bufs_sub ..⟩

/-- One trip of the loop's body, in stretches. -/
abbrev bodyI : List (List (HloOp τ sig (Elt Ideal))) :=
  [pickOps, distOps, argminOps, rowOps, clipOps, countOps, codeRowOps, countRowOps, nextOps]

/-- The loop's test: the counter below eight. -/
abbrev condOps : List (HloOp τ sig (Elt Ideal)) :=
  [ StableHlo.nullary main_while0c_c_11 (constantI S_ 32 8#32),
    StableHlo.binary main_v3_1 main_while0c_c_11 main_while0c_v15 (cmpi .slt : (⟨S_, .i32⟩ : BufTy).Contents (Elt Ideal) → (⟨S_, .i32⟩ : BufTy).Contents (Elt Ideal) → (⟨S_, .i1⟩ : BufTy).Contents (Elt Ideal)) ]

theorem pre_plain : StableHlo.Plain [(preOps : List (HloOp τ sig (Elt F)))] := .cons preOps_sub .nil
theorem post_plain : StableHlo.Plain [(postOps : List (HloOp τ sig (Elt F))), clampOps, shareOps] := .cons postOps_sub (.cons clampOps_sub (.cons shareOps_sub .nil))
theorem body_plain : StableHlo.Plain bodyI :=
  .cons pickOps_sub (.cons distOps_sub (.cons argminOps_sub (.cons rowOps_sub (.cons clipOps_sub (.cons countOps_sub
    (.cons codeRowOps_sub (.cons countRowOps_sub (.cons nextOps_sub .nil))))))))

theorem body_chain : main_while0_body (F := Ideal) = Pipeline.chain (bodyI.map fun ops => (StableHlo.seq ops : Prog _ PUnit)) := by
  unfold bodyI
  simp only [List.map_cons, List.map_nil]
  rewrite [Pipeline.chain_cons, StableHlo.chain_seq_cons, Pipeline.chain_cons, StableHlo.chain_seq_cons, Pipeline.chain_cons,
    StableHlo.chain_seq_cons, Pipeline.chain_cons, Pipeline.chain_cons, StableHlo.chain_seq_cons]
  chain_rfl

theorem main_chain (c : Dev nD) : main (F := Ideal) c = Pipeline.chain (([preOps].map fun ops => (StableHlo.seq ops : Prog _ PUnit))
    ++ HostLoop.enter 0 :: [postOps, clampOps, shareOps].map fun ops => (StableHlo.seq ops : Prog _ PUnit)) := by
  simp only [List.map_cons, List.map_nil, List.cons_append, List.nil_append]
  rewrite [StableHlo.chain_seq_cons, Pipeline.chain_cons, StableHlo.chain_seq_cons, Pipeline.chain_cons, StableHlo.chain_seq_cons]
  chain_rfl

/-- One trip: the test, then the body. -/
abbrev trip (W : Valuation τ sig (Elt Ideal)) : Valuation τ sig (Elt Ideal) := StableHlo.afterL bodyI (StableHlo.after condOps W)

/-- A trip adds one to the counter. -/
theorem trip_counter (W : Valuation τ sig (Elt Ideal)) :
    trip W (Proc.devRef .tc main_v3_1) = addi (W (Proc.devRef .tc main_v3_1)) (constantI S_ 32 1#32) := by
  unfold trip bodyI
  simp only [StableHlo.afterL_cons, StableHlo.afterL_nil]
  after_reads_simp
  rfl

variable (m : (ℓ : Loc nD τ sig) → Buf (Elt Ideal) ℓ) (c : Dev nD)

/-- Every buffer at the loop's entry, and before its `k`-th trip. -/
abbrev W0 (c : Dev nD) : Valuation τ sig (Elt Ideal) := StableHlo.entryContents [preOps] m c
abbrev Wk (k : ℕ) (c : Dev nD) : Valuation τ sig (Elt Ideal) := StableHlo.atTrip condOps bodyI (W0 m) k c

/-- Before trip `k` the counter is `k`. -/
theorem counter_eq : ∀ k : ℕ, Wk m k c (Proc.devRef .tc main_v3_1) = fun _ => BitVec.ofNat 32 k
  | 0 => by
    show StableHlo.after preOps (StableHlo.launchContents m c) (Proc.devRef .tc main_v3_1) = _
    after_reads_simp
    rfl
  | k + 1 => by
    refine (trip_counter (Wk m k c)).trans ?_
    rw [counter_eq k]
    funext j
    show BitVec.ofNat 32 k + 1#32 = BitVec.ofNat 32 (k + 1)
    rw [BitVec.ofNat_add]

theorem below_eight : ∀ k : ℕ, k ≤ 8 → Iff (IntOp.cmpi .slt (BitVec.ofNat 32 k) 8#32 = 1#1) (k < 8) := by decide

open Idealize.SL Idealize.SL.RA Idealize.SL.BI Idealize.SL.BI.BIBase Idealize.SL.BI.Laws Idealize.SL.ProofMode in
set_option backward.isDefEq.respectTransparency.types false in
/-- The test says yes exactly before the first eight trips. -/
theorem cond_spec : StableHlo.CondSpec pcfgs defs₀ (loops (F := Ideal)) main_while0_cond condOps bodyI (W0 m) 8 := by
  intro k hk c bd
  have hctr := counter_eq m c k
  unfold main_while0_cond
  rw [wp_bind]
  iintro ⟨Hb, Hh⟩
  iapply (StableHlo.wp_hlo_within (Variants.lift Variants.none) (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (Pipeline.sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (Wk m k c) main_v3_1 HostLoop.idx0)
        (HloOp.result _ (Wk m k c) main_while0c_c_11 HostLoop.idx0) = 1#1) (k < 8)
    rw [StableHlo.nullary_result_ne _ _ _ _ (by decide), StableHlo.nullary_result, hctr]
    exact below_eight k hk
  isplitl [Hb]; · iexact Hb
  rw [StableHlo.after_cons, StableHlo.after_cons, StableHlo.after_nil]; iexact Hh

/-- THE RUN: every buffer that holds a value of the program ends at the fold of its operations. -/
theorem run (ρ : Dev nD → PrngReg) :
    θ_run (defs (F := Ideal)) (onTc (τ := τ) main) ⟨m, fun _ => 0, ρ⟩
      (fun r => ∀ (c : Dev nD) (b : Ref sig .tc), (Proc.devRef .tc b : DevRef τ sig).isScoped = false →
        r.2.mem ((c.tc : Thread nD τ).loc b)
          = StableHlo.finalContents condOps [preOps] bodyI [postOps, clampOps, shareOps] 8 m c (Proc.devRef .tc b)) :=
  StableHlo.run_loop pcfgs defs₀ loops main 0 main_while0_cond main_while0_body rfl [preOps] bodyI [postOps, clampOps, shareOps] condOps
    pre_plain body_plain post_plain main_chain body_chain 8 m ρ (cond_spec m)

end Cert.ReferenceIdeal.Val

end
-- ==== Proof.RefOps.lean ====
/- Two of the reference's operations read at an element: the first least value of a row, and the count of a code. -/
module

public import proofs.«01_k».proof.Proof.Gen.ReferenceIdeal
public import proofs.«01_k».proof.Proof.Model
public import Idealize.ShloMosaic.Lib.Pipeline.ValueKit
public import Idealize.ShloMosaic.PureOps.Ideal
public import Idealize.ShloMosaic.Lib.Routing.OpsPair

@[expose] public section

set_option maxRecDepth 16384
set_option maxHeartbeats 2000000

noncomputable section

namespace Cert.ReferenceIdeal.Val

open Idealize.ShloMosaic Idealize.ShloMosaic.TcCoe Idealize.SL.Sem
open Cert.ReferenceIdeal.Gen Cert.Rvq

/-- Every index of a vector, and of a matrix, is made of its coordinates. -/
theorem of_ix1 {a : ℕ} (y : (⟨1, ![a]⟩ : Shape).Idx) : ∃ i : Fin a, y = ix1 i := ⟨y 0, by idx_ext⟩
theorem of_ix2 {a b : ℕ} (y : (⟨2, ![a, b]⟩ : Shape).Idx) : ∃ (i : Fin a) (d : Fin b), y = ix2 i d := ⟨y 0, y 1, by idx_ext⟩

/-! ## The first least value of a row -/

/-- `p` is `q` or goes before it: a lesser value, or the same value at an index not greater. -/
def Before (p q : EReal × BitVec 32) : Prop := p.1 < q.1 ∨ p.1 = q.1 ∧ p.2.toInt ≤ q.2.toInt

theorem Before.refl (p : EReal × BitVec 32) : Before p p := .inr ⟨rfl, le_rfl⟩

theorem Before.trans {p q r : EReal × BitVec 32} (h : Before p q) (h' : Before q r) : Before p r := by
  rcases h with h | ⟨h, i⟩ <;> rcases h' with h' | ⟨h', i'⟩
  · exact .inl (h.trans h')
  · exact .inl (h' ▸ h)
  · exact .inl (h ▸ h')
  · exact .inr ⟨h.trans h', i.trans i'⟩

/-- The reducer takes the first of two pairs where that goes strictly before, the second otherwise. -/
theorem reducer_eq (a b : EReal × BitVec 32) : reducer_argmin_f32_i32 (F := Ideal) a b
    = if a.1 < b.1 ∨ a.1 = b.1 ∧ a.2.toInt < b.2.toInt then a else b := by
  obtain ⟨a1, a2⟩ := a
  obtain ⟨b1, b2⟩ := b
  have hs : (IntOp.cmpi .slt a2 b2) = BitVec.ofBool (decide (a2.toInt < b2.toInt)) := by
    show BitVec.ofBool (a2.slt b2) = _
    rw [BitVec.slt_eq_decide]
  unfold reducer_argmin_f32_i32
  simp only [Ideal.cmpf_def, Ideal.cmp, hs, IntOp.ori, IntOp.andi, Scalar.select]
  rcases lt_trichotomy a1 b1 with h | h | h
  · have e : ∀ x : BitVec 1, 1#1 ||| x = 1#1 := by decide
    simp [h, e]
  · subst h
    by_cases h2 : a2.toInt < b2.toInt <;> simp [h2]
  · simp [h.not_gt, h.ne']

theorem reducer_before (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  rw [reducer_eq]
  split_ifs with h
  · exact ⟨.inl rfl, .refl _, h.imp id fun h => ⟨h.1, h.2.le⟩⟩
  · refine ⟨.inr rfl, ?_, .refl _⟩
    rcases lt_trichotomy a.1 b.1 with h' | h' | h'
    · exact absurd (.inl h') h
    · exact .inr ⟨h'.symm, not_lt.mp fun h2 => h (.inr ⟨h', h2⟩)⟩
    · exact .inl h'

/-- The reducer folded over a list: one of the list's pairs or the first one, and before all of them. -/
theorem foldl_reducer (l : List (EReal × BitVec 32)) : ∀ p : EReal × BitVec 32,
    (l.foldl (reducer_argmin_f32_i32 (F := Ideal)) p = p ∨ l.foldl (reducer_argmin_f32_i32 (F := Ideal)) p ∈ l)
      ∧ Before (l.foldl (reducer_argmin_f32_i32 (F := Ideal)) p) p
      ∧ ∀ q ∈ l, Before (l.foldl (reducer_argmin_f32_i32 (F := Ideal)) p) q := by
  induction l with
  | nil => exact fun p => ⟨.inl rfl, .refl p, fun q h => nomatch h⟩
  | cons a l ih =>
    intro p
    obtain ⟨h1, h2, h3⟩ := ih (reducer_argmin_f32_i32 (F := Ideal) p a)
    obtain ⟨g1, g2, g3⟩ := reducer_before p a
    rw [List.foldl_cons]
    refine ⟨?_, h2.trans g2, fun q hq => ?_⟩
    · rcases h1 with h1 | h1
      · rcases g1 with g1 | g1
        · exact .inl (h1.trans g1)
        · exact .inr (by rw [h1, g1]; exact List.mem_cons_self)
      · exact .inr (List.mem_cons_of_mem _ h1)
    · rcases List.mem_cons.mp hq with rfl | hq
      · exact h2.trans g3
      · exact h3 q hq

/-- What goes before every pair of value and index of a row, and is one of them or the last value at index zero, is the
    row's first least value. -/
theorem before_firstMin {n : ℕ} [NeZero n] (hn : n < 2 ^ 31) (f : Fin n → EReal) (r : EReal × BitVec 32)
    (h1 : r = (⊤, 0#32) ∨ ∃ k : Fin n, r = (f k, BitVec.ofNat 32 k)) (h2 : ∀ k : Fin n, Before r (f k, BitVec.ofNat 32 k)) :
    r.2 = BitVec.ofNat 32 (firstMin f) := by
  have hs := firstMin_spec f
  have hb := h2 (firstMin f)
  rcases h1 with rfl | ⟨k, rfl⟩
  · have htop : f (firstMin f) = ⊤ := by
      rcases hb with hb | hb
      · exact absurd hb not_top_lt
      · exact hb.1.symm
    have h0 : firstMin f = 0 := by
      by_contra hne
      have h' := hs.2 0 (Fin.pos_iff_ne_zero.mpr hne)
      rw [htop] at h'
      exact absurd h' not_top_lt
    rw [h0]; rfl
  · have hk : k = firstMin f := by
      have hk1 := (firstMin f).isLt
      have hk2 := k.isLt
      rcases hb with hb | ⟨he, hi⟩
      · exact absurd hb (not_lt.mpr (hs.1 k))
      · by_contra hne
        rw [toInt_ofNat (by omega), toInt_ofNat (by omega)] at hi
        have hlt : k < firstMin f := lt_of_le_of_ne (by exact_mod_cast hi) hne
        exact absurd he.symm (hs.2 k hlt).ne
    rw [← hk]

/-- The reference's arg-min over rows, at row `i`. -/
theorem argmin_at (x : S65536x1024.Idx → EReal) (y : S65536x1024.Idx → BitVec 32) (u : S_.Idx → EReal) (v : S_.Idx → BitVec 32)
    (hy : ∀ i k, y (ix2 i k) = BitVec.ofNat 32 k.val) (hu : ∀ j, u j = ⊤) (hv : ∀ j, v j = 0#32) (i : Fin 65536) :
    (Host.argReduce (φ := .f32) (F := Ideal) reducer_argmin_f32_i32 x y u v reducesTo_S65536x1024_S65536_d1 h_S_ (ix1 i)).2
      = BitVec.ofNat 32 (firstMin fun k : Fin 1024 => x (ix2 i k)) := by
  rw [Ideal.argReduce_eq_reduce2, Host.reduce2_eq_foldl_fiber, hu, hv]
  have hmem : ∀ p, p ∈ Host.argReduceFiber x y reducesTo_S65536x1024_S65536_d1 (ix1 i)
      ↔ ∃ k : Fin 1024, p = (x (ix2 i k), BitVec.ofNat 32 k.val) := by
    intro p
    unfold Host.argReduceFiber
    rw [List.mem_map]
    constructor
    · rintro ⟨n, hn, rfl⟩
      have hd := of_decide_eq_true (List.mem_filter.mp hn).2
      obtain ⟨a, k, e⟩ := of_ix2 (S65536x1024.rowMajor.symm n)
      rw [e] at hd ⊢
      have ha : a = i := by
        have := congrArg Fin.val (congrFun hd 0)
        exact Fin.ext this
      subst ha
      exact ⟨k, by rw [hy]⟩
    · rintro ⟨k, rfl⟩
      refine ⟨S65536x1024.rowMajor (ix2 i k), List.mem_filter.mpr ⟨List.mem_finRange _, decide_eq_true ?_⟩, ?_⟩
      · rw [Equiv.symm_apply_apply]
        idx_ext
      · rw [Equiv.symm_apply_apply, hy]
  obtain ⟨h1, -, h3⟩ := foldl_reducer (Host.argReduceFiber x y reducesTo_S65536x1024_S65536_d1 (ix1 i)) (⊤, 0#32)
  exact before_firstMin (by norm_num) _ _ (h1.imp id fun h => (hmem _).mp h) fun k => h3 _ ((hmem _).mpr ⟨k, rfl⟩)

/-! ## The count of a code -/

/-- How many rows have code `k`, as a number. -/
def codeNat (C : Fin 65536 → Fin 1024) (k : Fin 1024) : ℕ := (Finset.univ.filter fun i => k = C i).card

theorem foldl_count {α : Type} (l : List α) (p : α → Prop) [DecidablePred p] (f : α → BitVec 32) (hf : ∀ n, f n = 1#32) : ∀ a : BitVec 32,
    l.foldl (fun a n => if p n then IntOp.addi a (f n) else a) a = a + BitVec.ofNat 32 (l.countP fun n => decide (p n)) := by
  induction l with
  | nil => intro a; simp
  | cons n l ih =>
    intro a
    rw [List.foldl_cons, ih, List.countP_cons]
    by_cases h : p n
    · rw [if_pos h, if_pos (decide_eq_true h), hf]
      show a + 1#32 + _ = _
      rw [BitVec.ofNat_add, BitVec.add_assoc, BitVec.add_comm 1#32]
    · rw [if_neg h, if_neg (by simpa using h), Nat.add_zero]

/-- The positions of a vector's indices with a property, counted in row-major order: the coordinates with it. -/
theorem countP_rows {a : ℕ} (p : (⟨1, ![a]⟩ : Shape).Idx → Prop) [DecidablePred p] :
    ((List.finRange (⟨1, ![a]⟩ : Shape).numel).countP fun n => decide (p ((⟨1, ![a]⟩ : Shape).rowMajor.symm n)))
      = (Finset.univ.filter fun i : Fin a => p (ix1 i)).card := by
  rw [List.countP_eq_length_filter, ← List.toFinset_card_of_nodup ((List.nodup_finRange _).filter _)]
  refine Finset.card_bij (fun n _ => (⟨1, ![a]⟩ : Shape).rowMajor.symm n 0) (fun n hn => ?_) (fun n _ n' _ e => ?_) fun i hi => ?_
  · have h := of_decide_eq_true (List.mem_filter.mp (List.mem_toFinset.mp hn)).2
    obtain ⟨i, e⟩ := of_ix1 ((⟨1, ![a]⟩ : Shape).rowMajor.symm n)
    rw [e] at h ⊢
    exact Finset.mem_filter.mpr ⟨Finset.mem_univ _, h⟩
  · obtain ⟨i, ei⟩ := of_ix1 ((⟨1, ![a]⟩ : Shape).rowMajor.symm n)
    obtain ⟨i', ei'⟩ := of_ix1 ((⟨1, ![a]⟩ : Shape).rowMajor.symm n')
    rw [ei, ei'] at e
    have hi : i = i' := e
    exact (⟨1, ![a]⟩ : Shape).rowMajor.symm.injective (by rw [ei, ei', hi])
  · refine ⟨(⟨1, ![a]⟩ : Shape).rowMajor (ix1 i), List.mem_toFinset.mpr (List.mem_filter.mpr ⟨List.mem_finRange _, decide_eq_true ?_⟩), ?_⟩
    · rw [Equiv.symm_apply_apply]
      exact (Finset.mem_filter.mp hi).2
    · rw [Equiv.symm_apply_apply]; rfl

theorem lands_at (idx : S65536x1.Idx → BitVec 32) (i : Fin 65536) (k : Fin 1024) :
    scatter_S1024_S65536x1_S65536_n_0_0_1.resultIdx? (ix1 i) idx = some (ix1 k) ↔ (idx (ix2 i 0)).toInt = (k.val : Int) := by
  refine (Routing.resultIdx?_ix1 (N := 1024) scatter_S1024_S65536x1_S65536_n_0_0_1 (ix1 i) idx k).trans ?_
  have hw : scatter_S1024_S65536x1_S65536_n_0_0_1.window (ix1 i) 0 = 0 := rfl
  have hs : scatter_S1024_S65536x1_S65536_n_0_0_1.start (ix1 i) idx 0 = (idx (ix2 i 0)).toInt := by
    unfold ScatterDims.start
    rw [dif_pos (show (0 : Fin 1) ∈ scatter_S1024_S65536x1_S65536_n_0_0_1.scatterDimsToOperandDims from List.mem_singleton.mpr rfl)]
    refine congrArg (fun z => (idx z).toInt) ?_
    funext b
    match b with
    | ⟨0, _⟩ => rfl
    | ⟨1, _⟩ => rfl
  rw [hw, hs, Nat.cast_zero, add_zero]

/-- The reference's count by a scatter that adds one, at code `k`. -/
theorem scatter_at (z : S1024.Idx → BitVec 32) (idx : S65536x1.Idx → BitVec 32) (upd : S65536.Idx → BitVec 32) (C : Fin 65536 → Fin 1024)
    (hz : ∀ j, z j = 0#32) (hi : ∀ i, idx (ix2 i 0) = BitVec.ofNat 32 (C i).val) (hu : ∀ j, upd j = 1#32) (k : Fin 1024) :
    Host.scatter scatter_S1024_S65536x1_S65536_n_0_0_1 IntOp.addi z idx upd (ix1 k) = BitVec.ofNat 32 (codeNat C k) := by
  have hl : ∀ i, scatter_S1024_S65536x1_S65536_n_0_0_1.resultIdx? (ix1 i) idx = some (ix1 k) ↔ k = C i := by
    intro i
    have hc := (C i).isLt
    have hk := k.isLt
    rw [lands_at, hi, toInt_ofNat (by omega), Fin.ext_iff]
    omega
  rw [Routing.scatter_at, foldl_count _ _ _ fun n => hu _, hz, BitVec.zero_add]
  exact congrArg (BitVec.ofNat 32) ((countP_rows (a := 65536) fun y => scatter_S1024_S65536x1_S65536_n_0_0_1.resultIdx? y idx = some (ix1 k)).trans
    (congrArg Finset.card (Finset.filter_congr fun i _ => hl i)))

end Cert.ReferenceIdeal.Val

end
-- ==== Proof.RefStep.lean ====
/- One trip of the reference's loop, stretch by stretch, as one stage of the quantization. -/
module

public import proofs.«01_k».proof.Proof.RefRun
public import proofs.«01_k».proof.Proof.RefOps
public import Idealize.ShloMosaic.Lib.Routing.Ops

@[expose] public section

set_option maxRecDepth 16384
set_option maxHeartbeats 2000000

noncomputable section

namespace Cert.ReferenceIdeal.Val

open Idealize.ShloMosaic Idealize.ShloMosaic.TcCoe Idealize.SL.Sem
open Cert.ReferenceIdeal.Gen Cert.Rvq

variable (V : Valuation τ sig (Elt Ideal))

/-- The buffers of a trip, as arrays. -/
abbrev wordsOf : Words := V (Proc.devRef .tc main_v3_0)
abbrev resOf : Rows := V (Proc.devRef .tc main_v3_2)
abbrev sumOf : Rows := V (Proc.devRef .tc main_v3_3)
abbrev rowsOf : S8x65536.Idx → BitVec 32 := V (Proc.devRef .tc main_v3_4)
abbrev countsOf : S8x1024.Idx → BitVec 32 := V (Proc.devRef .tc main_v3_5)
abbrev cbOf : S1024x256.Idx → EReal := V (Proc.devRef .tc main_while0b_v15)
abbrev distOf : S65536x1024.Idx → EReal := V (Proc.devRef .tc main_while0b_v29)
abbrev codesOf : S65536.Idx → BitVec 32 := V (Proc.devRef .tc main_while0b_v30)
abbrev clippedOf : S65536.Idx → BitVec 32 := V (Proc.devRef .tc main_while0b_v41)
abbrev zerosOf : S1024.Idx → BitVec 32 := V (Proc.devRef .tc main_while0b_v40)
abbrev zeroOf : S_.Idx → BitVec 32 := V (Proc.devRef .tc main_while0b_c_17)
abbrev tallyOf : S1024.Idx → BitVec 32 := V (Proc.devRef .tc main_while0b_v49)

/-! ## Slices at the counter, wrapped indices, rows gathered -/

/-- One of eight tables cut out. -/
theorem slice_at (x : Words) (st : Fin 3 → ℤ) (k : Fin 8) (h0 : st 0 = k.val) (h1 : st 1 = 0) (h2 : st 2 = 0) (j : Fin 1024) (d : Fin 256) :
    shapeCast S1024x256 (Host.dynamicSlice S1x1024x256 x st sliceFits_S8x1024x256_S1x1024x256) shapeCasts_S1x1024x256_S1024x256 (ix2 j d) = x (ix3 k j d) := by
  have hk := k.isLt
  rw [WordCmp.dynamicSlice_eq_extract S1x1024x256 x st sliceFits_S8x1024x256_S1x1024x256 ![k.val, 0, 0]
    ⟨rfl, fun a => by fin_cases a <;> simp <;> omega⟩ (fun a => by fin_cases a <;> simp [h0, h1, h2])]
  pointwise

/-- A row of eight written. -/
theorem update_at {n : ℕ} (x : (⟨2, ![8, n]⟩ : Shape).Idx → BitVec 32) (u : (⟨2, ![1, n]⟩ : Shape).Idx → BitVec 32) (st : Fin 2 → ℤ)
    (h : (⟨2, ![8, n]⟩ : Shape).Slices (fun _ => 0) ⟨2, ![1, n]⟩) (k : Fin 8) (h0 : st 0 = k.val) (h1 : st 1 = 0) (l : Fin 8) (i : Fin n) :
    Host.dynamicUpdateSlice x u st h (ix2 l i) = if l = k then u (ix2 0 i) else x (ix2 l i) := by
  have hk := k.isLt
  have hl := l.isLt
  have hi := i.isLt
  have c0 : Host.clampedStart ⟨2, ![8, n]⟩ ⟨2, ![1, n]⟩ h.1 st 0 = k.val :=
    Host.clampedStart_of_le h.1 st 0 k.val h0 (show k.val + 1 ≤ 8 by omega)
  have c1 : Host.clampedStart ⟨2, ![8, n]⟩ ⟨2, ![1, n]⟩ h.1 st 1 = 0 :=
    Host.clampedStart_of_le h.1 st 1 0 h1 (show 0 + n ≤ n by omega)
  rw [Host.dynamicUpdateSlice_apply]
  by_cases e : l = k
  · subst e
    rw [if_pos rfl, dif_pos]
    · refine congrArg u (funext fun b => Fin.ext ?_)
      match b with
      | ⟨0, _⟩ => show l.val - Host.clampedStart ⟨2, ![8, n]⟩ ⟨2, ![1, n]⟩ h.1 st 0 = 0; omega
      | ⟨1, _⟩ => show i.val - Host.clampedStart ⟨2, ![8, n]⟩ ⟨2, ![1, n]⟩ h.1 st 1 = i.val; omega
    · intro a
      match a with
      | ⟨0, _⟩ =>
        show Host.clampedStart ⟨2, ![8, n]⟩ ⟨2, ![1, n]⟩ h.1 st 0 ≤ l.val ∧ l.val < Host.clampedStart ⟨2, ![8, n]⟩ ⟨2, ![1, n]⟩ h.1 st 0 + 1
        omega
      | ⟨1, _⟩ =>
        show Host.clampedStart ⟨2, ![8, n]⟩ ⟨2, ![1, n]⟩ h.1 st 1 ≤ i.val ∧ i.val < Host.clampedStart ⟨2, ![8, n]⟩ ⟨2, ![1, n]⟩ h.1 st 1 + n
        omega
  · rw [if_neg e, dif_neg]
    intro hin
    have h' : Host.clampedStart ⟨2, ![8, n]⟩ ⟨2, ![1, n]⟩ h.1 st 0 ≤ l.val ∧ l.val < Host.clampedStart ⟨2, ![8, n]⟩ ⟨2, ![1, n]⟩ h.1 st 0 + 1 := hin 0
    exact e (Fin.ext (by omega))

/-- The indices as a gather and a scatter take them: a negative one moved up by the number of words. -/
abbrev wrapped (x : S65536.Idx → BitVec 32) : S65536x1.Idx → BitVec 32 :=
  broadcastInDim S65536x1 ![0] bcast_S65536_S65536x1_0
    (select (cmpi .slt x (broadcastInDim S65536 ![] bcast_S_S65536 (constantI S_ 32 0#32)))
      (addi x (broadcastInDim S65536 ![] bcast_S_S65536 (constantI S_ 32 1024#32))) x)

theorem wrapped_at (x : S65536.Idx → BitVec 32) (C : Fin 65536 → Fin 1024) (h : ∀ i, x (ix1 i) = BitVec.ofNat 32 (C i).val) (i : Fin 65536) :
    wrapped x (ix2 i 0) = BitVec.ofNat 32 (C i).val := by
  have e : wrapped x (ix2 i 0) = Scalar.select (IntOp.cmpi .slt (x (ix1 i)) 0#32) (IntOp.addi (x (ix1 i)) 1024#32) (x (ix1 i)) := by
    unfold wrapped
    pointwise
  have hc := (C i).isLt
  rw [e, h, Routing.wrap_of_lt]
  rw [BitVec.toNat_ofNat]
  omega

/-- The chosen words. -/
theorem gather_at (A : S1024x256.Idx → EReal) (x : S65536.Idx → BitVec 32) (C : Fin 65536 → Fin 1024)
    (h : ∀ i, x (ix1 i) = BitVec.ofNat 32 (C i).val) (i : Fin 65536) (d : Fin 256) :
    Host.gather gather_S1024x256_S65536x1_S65536x256_1_0_n_n_0_1_1256 A (wrapped x) (ix2 i d) = A (ix2 (C i) d) :=
  Routing.gather_row (nb := 1024) (B := 256) (n := 65536) gather_S1024x256_S65536x1_S65536x256_1_0_n_n_0_1_1256 rfl rfl rfl rfl rfl A (wrapped x) i d (C i)
    (wrapped_at x C h i) (by norm_num)

/-! ## The stretches -/

/-- The trip's code words. -/
theorem pick_at (k : Fin 8) (hk : V (Proc.devRef .tc main_v3_1) = fun _ => BitVec.ofNat 32 k.val) (j : Fin 1024) (d : Fin 256) :
    StableHlo.after pickOps V (Proc.devRef .tc main_while0b_v15) (ix2 j d) = wordsOf V (ix3 k j d) := by
  after_reads_simp [StableHlo.unaryIndexed_result_read, StableHlo.indexContents_tref_cons, StableHlo.indexContents_tref_empty]
  exact slice_at (wordsOf V) _ k ((congrArg BitVec.toInt (congrFun hk _)).trans (toInt_ofNat (by omega))) rfl rfl j d

/-- The distances. -/
theorem dist_at (i : Fin 65536) (j : Fin 1024) :
    StableHlo.after distOps V (Proc.devRef .tc main_while0b_v29) (ix2 i j)
      = Rvq.dist (Rvq.sq fun d => resOf V (ix2 i d)) (fun d => resOf V (ix2 i d))
          (fun j => Rvq.sq fun d => cbOf V (ix2 j d)) (fun j d => cbOf V (ix2 j d)) j := by
  after_reads_at
  rfl

/-- The reference's arg-min as an array. -/
def firstLeast (x : S65536x1024.Idx → EReal) (y : S65536x1024.Idx → BitVec 32) (u : S_.Idx → EReal) (v : S_.Idx → BitVec 32) : S65536.Idx → BitVec 32 :=
  fun j => (Host.argReduce (φ := .f32) (F := Ideal) reducer_argmin_f32_i32 x y u v reducesTo_S65536x1024_S65536_d1 h_S_ j).2

theorem iota_at (i : Fin 65536) (k : Fin 1024) : iotaInDim S65536x1024 32 1 (ix2 i k) = BitVec.ofNat 32 k.val := by pointwise

theorem inf_eq : Ideal.ofBits .f32 0x7F800000#32 = ⊤ := by simp [Ideal.ofBits, Ideal.ieee]

theorem argmin_reads : StableHlo.after argminOps V (Proc.devRef .tc main_while0b_v30)
    = firstLeast (distOf V) (iotaInDim S65536x1024 32 1) (constant (F := Ideal) S_ .f32 0x7F800000#32) (constantI S_ 32 0#32) := by
  after_reads_simp
  rfl

theorem firstLeast_eq : firstLeast = fun x y u v j =>
    (Host.argReduce (φ := .f32) (F := Ideal) reducer_argmin_f32_i32 x y u v reducesTo_S65536x1024_S65536_d1 h_S_ j).2 := rfl

theorem firstLeast_at (x : S65536x1024.Idx → EReal) (y : S65536x1024.Idx → BitVec 32) (u : S_.Idx → EReal) (v : S_.Idx → BitVec 32)
    (hy : ∀ i k, y (ix2 i k) = BitVec.ofNat 32 k.val) (hu : ∀ j, u j = ⊤) (hv : ∀ j, v j = 0#32) (i : Fin 65536) :
    firstLeast x y u v (ix1 i) = BitVec.ofNat 32 (firstMin fun k : Fin 1024 => x (ix2 i k)) := by
  rw [firstLeast_eq]
  exact argmin_at x y u v hy hu hv i

theorem code_at (i : Fin 65536) :
    StableHlo.after argminOps V (Proc.devRef .tc main_while0b_v30) (ix1 i) = BitVec.ofNat 32 (firstMin fun k : Fin 1024 => distOf V (ix2 i k)) :=
  (congrFun (argmin_reads V) (ix1 i)).trans
    (firstLeast_at (distOf V) (iotaInDim S65536x1024 32 1) (constant (F := Ideal) S_ .f32 0x7F800000#32) (constantI S_ 32 0#32) iota_at (fun _ => inf_eq) (fun _ => rfl) i)

/-- The residual and the sum moved on. -/
theorem row_at (C : Fin 65536 → Fin 1024) (hC : ∀ i, codesOf V (ix1 i) = BitVec.ofNat 32 (C i).val) (i : Fin 65536) (d : Fin 256) :
    StableHlo.after rowOps V (Proc.devRef .tc main_while0b_v38) (ix2 i d) = resOf V (ix2 i d) - cbOf V (ix2 (C i) d)
      ∧ StableHlo.after rowOps V (Proc.devRef .tc main_while0b_v39) (ix2 i d) = sumOf V (ix2 i d) + cbOf V (ix2 (C i) d) := by
  constructor
  · after_reads_simp
    show resOf V (ix2 i d) - Host.gather gather_S1024x256_S65536x1_S65536x256_1_0_n_n_0_1_1256 (cbOf V) (wrapped (codesOf V)) (ix2 i d) = _
    rw [gather_at (cbOf V) (codesOf V) C hC]
  · after_reads_simp
    show sumOf V (ix2 i d) + Host.gather gather_S1024x256_S65536x1_S65536x256_1_0_n_n_0_1_1256 (cbOf V) (wrapped (codesOf V)) (ix2 i d) = _
    rw [gather_at (cbOf V) (codesOf V) C hC]

theorem row_zeros : (StableHlo.after rowOps V (Proc.devRef .tc main_while0b_v40) = fun _ => 0#32)
    ∧ StableHlo.after rowOps V (Proc.devRef .tc main_while0b_c_17) = fun _ => 0#32 := by
  constructor
  · after_reads_simp
    rfl
  · after_reads_simp
    rfl

theorem clip_at (C : Fin 65536 → Fin 1024) (hC : ∀ i, codesOf V (ix1 i) = BitVec.ofNat 32 (C i).val)
    (h0 : zeroOf V = fun _ => 0#32) (i : Fin 65536) :
    StableHlo.after clipOps V (Proc.devRef .tc main_while0b_v41) (ix1 i) = BitVec.ofNat 32 (C i).val := by
  after_reads_simp
  have hc := (C i).isLt
  have e : IntOp.maxsi 0#32 (BitVec.ofNat 32 (C i).val) = BitVec.ofNat 32 (C i).val := by
    unfold IntOp.maxsi
    rw [BitVec.slt_eq_decide, toInt_ofNat (by omega)]
    split_ifs with h
    · simp at h; omega
    · rfl
  rw [← e, ← hC i]
  refine congrArg (fun z => IntOp.maxsi z (codesOf V (ix1 i))) ?_
  exact congrFun h0 _

theorem count_at (C : Fin 65536 → Fin 1024) (hC : ∀ i, clippedOf V (ix1 i) = BitVec.ofNat 32 (C i).val)
    (h0 : zerosOf V = fun _ => 0#32) (k : Fin 1024) :
    StableHlo.after countOps V (Proc.devRef .tc main_while0b_v49) (ix1 k) = BitVec.ofNat 32 (codeNat C k) := by
  after_reads_simp
  exact scatter_at (zerosOf V) (wrapped (clippedOf V)) _ C (congrFun h0) (wrapped_at (clippedOf V) C hC) (fun _ => rfl) k

theorem codeRow_at (k : Fin 8) (hk : V (Proc.devRef .tc main_v3_1) = fun _ => BitVec.ofNat 32 k.val) (l : Fin 8) (i : Fin 65536) :
    StableHlo.after codeRowOps V (Proc.devRef .tc main_while0b_v50) (ix2 l i) = if l = k then codesOf V (ix1 i) else rowsOf V (ix2 l i) := by
  after_reads_simp [StableHlo.binaryIndexed_result_read, StableHlo.indexContents_tref_cons, StableHlo.indexContents_tref_empty]
  have e : broadcastInDim S1x65536 ![1] bcast_S65536_S1x65536_1 (codesOf V) (ix2 0 i) = codesOf V (ix1 i) := by pointwise
  rw [← e]
  exact update_at (rowsOf V) _ _ updateFits_S8x65536_S1x65536 k ((congrArg BitVec.toInt (congrFun hk _)).trans (toInt_ofNat (by omega))) rfl l i

theorem countRow_at (k : Fin 8) (hk : V (Proc.devRef .tc main_v3_1) = fun _ => BitVec.ofNat 32 k.val) (l : Fin 8) (i : Fin 1024) :
    StableHlo.after countRowOps V (Proc.devRef .tc main_while0b_v51) (ix2 l i) = if l = k then tallyOf V (ix1 i) else countsOf V (ix2 l i) := by
  after_reads_simp [StableHlo.binaryIndexed_result_read, StableHlo.indexContents_tref_cons, StableHlo.indexContents_tref_empty]
  have e : broadcastInDim S1x1024 ![1] bcast_S1024_S1x1024_1 (tallyOf V) (ix2 0 i) = tallyOf V (ix1 i) := by pointwise
  rw [← e]
  exact update_at (countsOf V) _ _ updateFits_S8x1024_S1x1024 k ((congrArg BitVec.toInt (congrFun hk _)).trans (toInt_ofNat (by omega))) rfl l i

end Cert.ReferenceIdeal.Val

end
-- ==== Proof.RefCarry.lean ====
/- The reference's loop as the stages of the quantization: what a trip's entry holds, carried from trip to trip. -/
module

public import proofs.«01_k».proof.Proof.RefStep
public import proofs.«01_k».proof.Proof.Model

@[expose] public section

set_option maxRecDepth 16384
set_option maxHeartbeats 2000000

noncomputable section

namespace Cert.ReferenceIdeal.Val

open Idealize.ShloMosaic Idealize.ShloMosaic.TcCoe Idealize.SL.Sem
open Cert.ReferenceIdeal.Gen Cert.Rvq

variable (W : Valuation τ sig (Elt Ideal))

/-! ## The buffers after each stretch of a trip, and which a stretch writes -/

def atTest : Valuation τ sig (Elt Ideal) := StableHlo.after condOps W
def atPick : Valuation τ sig (Elt Ideal) := StableHlo.after pickOps (atTest W)
def atDist : Valuation τ sig (Elt Ideal) := StableHlo.after distOps (atPick W)
def atArgmin : Valuation τ sig (Elt Ideal) := StableHlo.after argminOps (atDist W)
def atRow : Valuation τ sig (Elt Ideal) := StableHlo.after rowOps (atArgmin W)
def atClip : Valuation τ sig (Elt Ideal) := StableHlo.after clipOps (atRow W)
def atCount : Valuation τ sig (Elt Ideal) := StableHlo.after countOps (atClip W)
def atCodeRow : Valuation τ sig (Elt Ideal) := StableHlo.after codeRowOps (atCount W)
def atCountRow : Valuation τ sig (Elt Ideal) := StableHlo.after countRowOps (atCodeRow W)
def atNext : Valuation τ sig (Elt Ideal) := StableHlo.after nextOps (atCountRow W)

theorem trip_eq : trip W = atNext W := rfl

abbrev testW : List (Ref sig .tc) := [main_while0c_c_11, main_while0c_v15]
abbrev pickW : List (Ref sig .tc) := [main_while0b_call0.c.ref, main_while0b_call0.c_0.ref, main_while0b_call0.v0.ref, main_while0b_call0.v1.ref]
abbrev distW : List (Ref sig .tc) :=
  [main_while0b_v16, main_while0b_cst_11, main_while0b_v17, main_while0b_v18, main_while0b_v19, main_while0b_cst_12, main_while0b_v20, main_while0b_v21,
   main_while0b_v22, main_while0b_v23, main_while0b_v24, main_while0b_v25, main_while0b_v26, main_while0b_cst_13, main_while0b_v27, main_while0b_v28, main_while0b_v29]
abbrev argminW : List (Ref sig .tc) :=
  [main_while0b_call1.v0.ref, main_while0b_call1.cst.ref, main_while0b_call1.c.ref, main_while0b_call1.v1_0.ref, main_while0b_call1.v1_1.ref]
abbrev rowW : List (Ref sig .tc) :=
  [main_while0b_c_14, main_while0b_v31, main_while0b_v32, main_while0b_c_15, main_while0b_v33, main_while0b_v34, main_while0b_v35, main_while0b_v36,
   main_while0b_v37, main_while0b_v38, main_while0b_v39, main_while0b_c_16, main_while0b_v40, main_while0b_c_17]
abbrev clipW : List (Ref sig .tc) := [main_while0b_call2.v0.ref, main_while0b_call2.v1.ref, main_while0b_call2.v2.ref]
abbrev countW : List (Ref sig .tc) :=
  [main_while0b_c_18, main_while0b_v42, main_while0b_v43, main_while0b_c_19, main_while0b_v44, main_while0b_v45, main_while0b_v46, main_while0b_v47,
   main_while0b_c_20, main_while0b_v48, main_while0b_v49]
abbrev codeRowW : List (Ref sig .tc) := [main_while0b_call3.v0.ref, main_while0b_call3.c.ref, main_while0b_call3.v1.ref]
abbrev countRowW : List (Ref sig .tc) := [main_while0b_call4.v0.ref, main_while0b_call4.c.ref, main_while0b_call4.v1.ref]
abbrev nextW : List (Ref sig .tc) := [main_while0b_c_21, main_while0b_v52, main_v3_1, main_v3_2, main_v3_3, main_v3_4, main_v3_5]

section keeps
variable {r : Ref sig .tc}
theorem test_keeps (h : r ∉ testW) : atTest W (Proc.devRef .tc r) = W (Proc.devRef .tc r) :=
  StableHlo.after_of_writes_sub condOps W (StableHlo.forall_writes_sub_of_map rfl) h
theorem pick_keeps (h : r ∉ pickW) : atPick W (Proc.devRef .tc r) = atTest W (Proc.devRef .tc r) :=
  StableHlo.after_of_writes_sub pickOps (atTest W) (StableHlo.forall_writes_sub_of_map rfl) h
theorem dist_keeps (h : r ∉ distW) : atDist W (Proc.devRef .tc r) = atPick W (Proc.devRef .tc r) :=
  StableHlo.after_of_writes_sub distOps (atPick W) (StableHlo.forall_writes_sub_of_map rfl) h
theorem argmin_keeps (h : r ∉ argminW) : atArgmin W (Proc.devRef .tc r) = atDist W (Proc.devRef .tc r) :=
  StableHlo.after_of_writes_sub argminOps (atDist W) (StableHlo.forall_writes_sub_of_map rfl) h
theorem row_keeps (h : r ∉ rowW) : atRow W (Proc.devRef .tc r) = atArgmin W (Proc.devRef .tc r) :=
  StableHlo.after_of_writes_sub rowOps (atArgmin W) (StableHlo.forall_writes_sub_of_map rfl) h
theorem clip_keeps (h : r ∉ clipW) : atClip W (Proc.devRef .tc r) = atRow W (Proc.devRef .tc r) :=
  StableHlo.after_of_writes_sub clipOps (atRow W) (StableHlo.forall_writes_sub_of_map rfl) h
theorem count_keeps (h : r ∉ countW) : atCount W (Proc.devRef .tc r) = atClip W (Proc.devRef .tc r) :=
  StableHlo.after_of_writes_sub countOps (atClip W) (StableHlo.forall_writes_sub_of_map rfl) h
theorem codeRow_keeps (h : r ∉ codeRowW) : atCodeRow W (Proc.devRef .tc r) = atCount W (Proc.devRef .tc r) :=
  StableHlo.after_of_writes_sub codeRowOps (atCount W) (StableHlo.forall_writes_sub_of_map rfl) h
theorem countRow_keeps (h : r ∉ countRowW) : atCountRow W (Proc.devRef .tc r) = atCodeRow W (Proc.devRef .tc r) :=
  StableHlo.after_of_writes_sub countRowOps (atCodeRow W) (StableHlo.forall_writes_sub_of_map rfl) h
theorem next_keeps (h : r ∉ nextW) : atNext W (Proc.devRef .tc r) = atCountRow W (Proc.devRef .tc r) :=
  StableHlo.after_of_writes_sub nextOps (atCountRow W) (StableHlo.forall_writes_sub_of_map rfl) h

/-- A buffer only the last stretch writes is as at the trip's entry until then. -/
theorem carried_pick (h : r ∉ testW ++ pickW) : atPick W (Proc.devRef .tc r) = W (Proc.devRef .tc r) := by
  rw [List.mem_append, not_or] at h
  rw [pick_keeps W h.2, test_keeps W h.1]
theorem carried_argmin (h : r ∉ testW ++ pickW ++ distW ++ argminW) : atArgmin W (Proc.devRef .tc r) = W (Proc.devRef .tc r) := by
  rw [List.mem_append, not_or, List.mem_append, not_or] at h
  rw [argmin_keeps W h.2, dist_keeps W h.1.2, carried_pick W h.1.1]
theorem carried_count (h : r ∉ testW ++ pickW ++ distW ++ argminW ++ rowW ++ clipW ++ countW) : atCount W (Proc.devRef .tc r) = W (Proc.devRef .tc r) := by
  rw [List.mem_append, not_or, List.mem_append, not_or, List.mem_append, not_or] at h
  rw [count_keeps W h.2, clip_keeps W h.1.2, row_keeps W h.1.1.2, carried_argmin W h.1.1.1]
theorem carried_codeRow (h : r ∉ testW ++ pickW ++ distW ++ argminW ++ rowW ++ clipW ++ countW ++ codeRowW) : atCodeRow W (Proc.devRef .tc r) = W (Proc.devRef .tc r) := by
  rw [List.mem_append, not_or] at h
  rw [codeRow_keeps W h.2, carried_count W h.1]
theorem carried_next (h : r ∉ testW ++ pickW ++ distW ++ argminW ++ rowW ++ clipW ++ countW ++ codeRowW ++ countRowW ++ nextW) :
    atNext W (Proc.devRef .tc r) = W (Proc.devRef .tc r) := by
  rw [List.mem_append, not_or, List.mem_append, not_or] at h
  rw [next_keeps W h.2, countRow_keeps W h.1.2, carried_codeRow W h.1.1]
end keeps

/-! ## What a trip's entry holds -/

/-- Before trip `k`: the counter, the words, the residual and the sum of stage `k`, and the codes and counts of the stages before. -/
structure Carried (x : Rows) (A : Words) (k : ℕ) (W : Valuation τ sig (Elt Ideal)) : Prop where
  ctr : W (Proc.devRef .tc main_v3_1) = fun _ => BitVec.ofNat 32 k
  words : wordsOf W = A
  res : resOf W = resAt x A k
  sum : sumOf W = sumAt x A k
  codes : ∀ (l : Fin 8), l.val < k → ∀ i : Fin 65536, rowsOf W (ix2 l i) = BitVec.ofNat 32 (codeAt x A l.val i).val
  counts : ∀ (l : Fin 8), l.val < k → ∀ j : Fin 1024, countsOf W (ix2 l j) = BitVec.ofNat 32 (codeNat (codeAt x A l.val) j)

section step
variable {x : Rows} {A : Words} {k : ℕ} {W : Valuation τ sig (Elt Ideal)} (h : Carried x A k W) (hk : k < 8)
include h

theorem ctr_eq (hk : k < 8) : W (Proc.devRef .tc main_v3_1) = fun _ => BitVec.ofNat 32 (⟨k, hk⟩ : Fin 8).val := h.ctr

theorem cb_eq (hk : k < 8) (j : Fin 1024) (d : Fin 256) : cbOf (atPick W) (ix2 j d) = word A k j d := by
  have e := pick_at (atTest W) ⟨k, hk⟩ ((test_keeps W (by decide)).trans h.ctr) j d
  refine e.trans ?_
  rw [show wordsOf (atTest W) = A from (test_keeps W (by decide)).trans h.words]
  unfold word
  rw [show (⟨k, hk⟩ : Fin 8) = Fin.ofNat 8 k from Fin.ext (Nat.mod_eq_of_lt hk).symm]

theorem dists_eq (hk : k < 8) (i : Fin 65536) (j : Fin 1024) :
    distOf (atDist W) (ix2 i j) = Rvq.dist (Rvq.sq fun d => resAt x A k (ix2 i d)) (fun d => resAt x A k (ix2 i d)) (fun j => Rvq.sq (word A k j)) (word A k) j := by
  refine (dist_at (atPick W) i j).trans ?_
  rw [show resOf (atPick W) = resAt x A k from (carried_pick W (by decide)).trans h.res,
    show (fun j d => cbOf (atPick W) (ix2 j d)) = word A k from funext fun j => funext fun d => cb_eq h hk j d]
  rw [show (fun j => Rvq.sq fun d => cbOf (atPick W) (ix2 j d)) = fun j => Rvq.sq (word A k j) from
    funext fun j => congrArg Rvq.sq (funext fun d => cb_eq h hk j d)]

theorem code_eq (hk : k < 8) (i : Fin 65536) : codesOf (atArgmin W) (ix1 i) = BitVec.ofNat 32 (codeAt x A k i).val := by
  refine (code_at (atDist W) i).trans ?_
  rw [show (fun j => distOf (atDist W) (ix2 i j)) = _ from funext fun j => dists_eq h hk i j]
  rfl

theorem rows_eq (hk : k < 8) (i : Fin 65536) (d : Fin 256) :
    atRow W (Proc.devRef .tc main_while0b_v38) (ix2 i d) = resAt x A (k + 1) (ix2 i d)
      ∧ atRow W (Proc.devRef .tc main_while0b_v39) (ix2 i d) = sumAt x A (k + 1) (ix2 i d) := by
  have e := row_at (atArgmin W) (codeAt x A k) (code_eq h hk) i d
  rw [show resOf (atArgmin W) = resAt x A k from (carried_argmin W (by decide)).trans h.res,
    show sumOf (atArgmin W) = sumAt x A k from (carried_argmin W (by decide)).trans h.sum,
    show cbOf (atArgmin W) = cbOf (atPick W) from (argmin_keeps W (by decide)).trans (dist_keeps W (by decide)),
    cb_eq h hk] at e
  exact e

theorem tally_eq (hk : k < 8) (j : Fin 1024) : tallyOf (atCount W) (ix1 j) = BitVec.ofNat 32 (codeNat (codeAt x A k) j) := by
  have hz := row_zeros (atArgmin W)
  refine count_at (atClip W) (codeAt x A k) (fun i => clip_at (atRow W) (codeAt x A k) (fun i => ?_) hz.2 i) ((clip_keeps W (by decide)).trans hz.1) j
  rw [show codesOf (atRow W) = codesOf (atArgmin W) from row_keeps W (by decide)]
  exact code_eq h hk i

theorem codeRows_eq (hk : k < 8) (l : Fin 8) (hl : l.val < k + 1) (i : Fin 65536) :
    atCodeRow W (Proc.devRef .tc main_while0b_v50) (ix2 l i) = BitVec.ofNat 32 (codeAt x A l.val i).val := by
  refine (codeRow_at (atCount W) ⟨k, hk⟩ ((carried_count W (by decide)).trans h.ctr) l i).trans ?_
  split_ifs with e
  · subst e
    rw [show codesOf (atCount W) = codesOf (atArgmin W) from
      (count_keeps W (by decide)).trans ((clip_keeps W (by decide)).trans (row_keeps W (by decide)))]
    exact code_eq h hk i
  · rw [show rowsOf (atCount W) = rowsOf W from carried_count W (by decide)]
    exact h.codes l (lt_of_le_of_ne (Nat.lt_succ_iff.mp hl) fun c => e (Fin.ext c)) i

theorem countRows_eq (hk : k < 8) (l : Fin 8) (hl : l.val < k + 1) (j : Fin 1024) :
    atCountRow W (Proc.devRef .tc main_while0b_v51) (ix2 l j) = BitVec.ofNat 32 (codeNat (codeAt x A l.val) j) := by
  refine (countRow_at (atCodeRow W) ⟨k, hk⟩ ((carried_codeRow W (by decide)).trans h.ctr) l j).trans ?_
  split_ifs with e
  · subst e
    rw [show tallyOf (atCodeRow W) = tallyOf (atCount W) from codeRow_keeps W (by decide)]
    exact tally_eq h hk j
  · rw [show countsOf (atCodeRow W) = countsOf W from carried_codeRow W (by decide)]
    exact h.counts l (lt_of_le_of_ne (Nat.lt_succ_iff.mp hl) fun c => e (Fin.ext c)) j

end step

/-- What the last stretch writes back. -/
theorem next_reads (V : Valuation τ sig (Elt Ideal)) :
    StableHlo.after nextOps V (Proc.devRef .tc main_v3_2) = V (Proc.devRef .tc main_while0b_v38)
      ∧ StableHlo.after nextOps V (Proc.devRef .tc main_v3_3) = V (Proc.devRef .tc main_while0b_v39)
      ∧ StableHlo.after nextOps V (Proc.devRef .tc main_v3_4) = V (Proc.devRef .tc main_while0b_v50)
      ∧ StableHlo.after nextOps V (Proc.devRef .tc main_v3_5) = V (Proc.devRef .tc main_while0b_v51) := by
  refine ⟨?_, ?_, ?_, ?_⟩ <;> (after_reads_simp; rfl)

/-- A trip moves the entry of stage `k` to the entry of stage `k + 1`. -/
theorem Carried.step {x : Rows} {A : Words} {k : ℕ} {W : Valuation τ sig (Elt Ideal)} (h : Carried x A k W) (hk : k < 8) :
    Carried x A (k + 1) (trip W) := by
  obtain ⟨n2, n3, n4, n5⟩ := next_reads (atCountRow W)
  have hrow : ∀ {r : Ref sig .tc}, r ∉ clipW ++ countW ++ codeRowW ++ countRowW → atCountRow W (Proc.devRef .tc r) = atRow W (Proc.devRef .tc r) := by
    intro r hr
    rw [List.mem_append, not_or, List.mem_append, not_or, List.mem_append, not_or] at hr
    rw [countRow_keeps W hr.2, codeRow_keeps W hr.1.2, count_keeps W hr.1.1.2, clip_keeps W hr.1.1.1]
  refine ⟨?_, ?_, ?_, ?_, ?_, ?_⟩
  · rw [trip_counter, h.ctr]
    funext j
    show BitVec.ofNat 32 k + 1#32 = BitVec.ofNat 32 (k + 1)
    rw [BitVec.ofNat_add]
  · exact (carried_next W (by decide)).trans h.words
  · refine (n2.trans (hrow (by decide))).trans (funext fun j => ?_)
    obtain ⟨a, b, rfl⟩ := of_ix2 j
    exact (rows_eq h hk a b).1
  · refine (n3.trans (hrow (by decide))).trans (funext fun j => ?_)
    obtain ⟨a, b, rfl⟩ := of_ix2 j
    exact (rows_eq h hk a b).2
  · intro l hl i
    exact (congrFun (n4.trans (countRow_keeps W (by decide))) (ix2 l i)).trans (codeRows_eq h hk l hl i)
  · intro l hl j
    exact (congrFun n5 (ix2 l j)).trans (countRows_eq h hk l hl j)

variable (m : (ℓ : Loc nD τ sig) → Buf (Elt Ideal) ℓ) (c : Dev nD)

/-- The rows to quantize and the code words, as the device holds them at the launch. -/
abbrev xs : Rows := m ((c.tc : Thread nD τ).loc main_arg0)
abbrev ws : Words := m ((c.tc : Thread nD τ).loc main_arg1)

theorem carried_zero : Carried (xs m c) (ws m c) 0 (W0 m c) := by
  refine ⟨counter_eq m c 0, ?_, ?_, ?_, fun l hl => absurd hl (Nat.not_lt_zero _), fun l hl => absurd hl (Nat.not_lt_zero _)⟩
  · show StableHlo.after preOps (StableHlo.launchContents m c) (Proc.devRef .tc main_v3_0) = _
    after_reads_simp
    rfl
  · show StableHlo.after preOps (StableHlo.launchContents m c) (Proc.devRef .tc main_v3_2) = _
    after_reads_simp
    rfl
  · show StableHlo.after preOps (StableHlo.launchContents m c) (Proc.devRef .tc main_v3_3) = _
    after_reads_simp
    funext j
    exact Ideal.ofBits_zero_f32

theorem carried_at : ∀ k : ℕ, k ≤ 8 → Carried (xs m c) (ws m c) k (Wk m k c)
  | 0, _ => carried_zero m c
  | k + 1, hk => (carried_at k (by omega)).step (by omega)

/-- The arguments at any trip's entry. -/
theorem args_at : ∀ k : ℕ, Wk m k c (Proc.devRef .tc main_arg0) = xs m c ∧ Wk m k c (Proc.devRef .tc main_arg1) = ws m c
  | 0 => by
    constructor
    · show StableHlo.after preOps (StableHlo.launchContents m c) (Proc.devRef .tc main_arg0) = _
      after_reads_simp
    · show StableHlo.after preOps (StableHlo.launchContents m c) (Proc.devRef .tc main_arg1) = _
      after_reads_simp
  | k + 1 => ⟨(carried_next (Wk m k c) (by decide)).trans (args_at k).1, (carried_next (Wk m k c) (by decide)).trans (args_at k).2⟩

end Cert.ReferenceIdeal.Val

end
-- ==== Proof.RefResult.lean ====
/- The reference's five results, read off the loop's last entry, and its run. -/
module

public import proofs.«01_k».proof.Proof.RefCarry

@[expose] public section

set_option maxRecDepth 16384
set_option maxHeartbeats 2000000

noncomputable section

namespace Cert.ReferenceIdeal.Val

open Idealize.ShloMosaic Idealize.ShloMosaic.TcCoe Idealize.SL.Sem
open Cert.ReferenceIdeal.Gen Cert.Rvq

/-! ## Counts and constants -/

theorem sum_ones {α : Type} (s : Finset α) (p : α → Prop) [DecidablePred p] :
    (∑ i ∈ s, if p i then (1 : EReal) else 0) = (((s.filter p).card : ℝ) : EReal) := by
  rw [Finset.sum_boole, EReal.coe_coe_eq_natCast]

/-- A count of codes, as a number and as a sum of ones. -/
theorem codeCount_eq (C : Fin 65536 → Fin 1024) (k : Fin 1024) : codeCount C k = ((codeNat C k : ℝ) : EReal) :=
  sum_ones Finset.univ fun i => k = C i

theorem codeNat_le (C : Fin 65536 → Fin 1024) (k : Fin 1024) : codeNat C k ≤ 65536 := by
  unfold codeNat
  refine (Finset.card_filter_le _ _).trans ?_
  rw [Finset.card_univ, Fintype.card_fin]

/-- Every row has one code. -/
theorem sum_codeNat (C : Fin 65536 → Fin 1024) : ∑ k, codeNat C k = 65536 := by
  have h := Finset.card_eq_sum_card_fiberwise (s := Finset.univ) (t := Finset.univ) (f := C) (fun i _ => Finset.mem_univ (C i))
  rw [Finset.card_univ, Fintype.card_fin] at h
  refine (Finset.sum_congr rfl fun k _ => ?_).trans h.symm
  unfold codeNat
  exact congrArg Finset.card (Finset.filter_congr fun i _ => eq_comm)

theorem toInt_codeNat (C : Fin 65536 → Fin 1024) (k : Fin 1024) : (((BitVec.ofNat 32 (codeNat C k)).toInt : ℝ) : EReal) = ((codeNat C k : ℝ) : EReal) := by
  rw [toInt_ofNat (by have := codeNat_le C k; omega)]
  push_cast
  rfl

theorem sum_codeNat_real (C : Fin 65536 → Fin 1024) : ∑ k, ((codeNat C k : ℝ) : EReal) = ((65536 : ℝ) : EReal) := by
  simp only [EReal.coe_coe_eq_natCast]
  rw [← Nat.cast_sum, sum_codeNat, ← EReal.coe_coe_eq_natCast]
  norm_num

theorem bits_inv16 : Ideal.ofBits .f32 0x37800000#32 = (((65536 : ℝ)⁻¹ : ℝ) : EReal) := by
  simp [Ideal.ofBits, Ideal.ieee]
  rw [← EReal.coe_mul]
  norm_num
theorem bits_inv24 : Ideal.ofBits .f32 0x33800000#32 = (((16777216 : ℝ)⁻¹ : ℝ) : EReal) := by
  simp [Ideal.ofBits, Ideal.ieee]
  rw [← EReal.coe_mul]
  norm_num
theorem bits_24 : Ideal.ofBits .f32 0x4B800000#32 = ((16777216 : ℝ) : EReal) := by
  simp [Ideal.ofBits, Ideal.ieee]
  rw [← EReal.coe_mul]
  norm_num

theorem div_coe (a : EReal) (r : ℝ) (hr : r ≠ 0) : Ideal.div a (r : EReal) = a * ((r⁻¹ : ℝ) : EReal) := by
  unfold Ideal.div
  rw [if_neg (by exact_mod_cast hr), EReal.coe_inv]

/-! ## After the loop -/

variable (V : Valuation τ sig (Elt Ideal))

def final : Valuation τ sig (Elt Ideal) := StableHlo.after shareOps (StableHlo.after clampOps (StableHlo.after postOps V))

abbrev postW : List (Ref sig .tc) :=
  [main_v4, main_v5, main_v6, main_cst_2, main_v7, main_cst_3, main_v8, main_v9, main_cst_4, main_v10, main_v11, main_cst_5]
abbrev clampW : List (Ref sig .tc) := [main_call5.v0.ref, main_call5.v1.ref, main_call5.v2.ref]
abbrev shareW : List (Ref sig .tc) := [main_v13, main_v14]

theorem final_keeps {r : Ref sig .tc} (h : r ∉ postW ++ clampW ++ shareW) : final V (Proc.devRef .tc r) = V (Proc.devRef .tc r) := by
  rw [List.mem_append, not_or, List.mem_append, not_or] at h
  exact (StableHlo.after_of_writes_sub shareOps _ (StableHlo.forall_writes_sub_of_map rfl) h.2).trans
    ((StableHlo.after_of_writes_sub clampOps _ (StableHlo.forall_writes_sub_of_map rfl) h.1.2).trans
      (StableHlo.after_of_writes_sub postOps V (StableHlo.forall_writes_sub_of_map rfl) h.1.1))

theorem final_codes (i : Fin 65536) (l : Fin 8) : final V (Proc.devRef .tc main_v4) (ix2 i l) = rowsOf V (ix2 l i) := by
  unfold final
  after_reads_at

theorem final_loss (z : Rows) (hx : V (Proc.devRef .tc main_arg0) = z) (j : S_.Idx) : final V (Proc.devRef .tc main_v8) j
    = (∑ i : Fin 65536, ∑ d : Fin 256, (sumOf V (ix2 i d) - z (ix2 i d)) * (sumOf V (ix2 i d) - z (ix2 i d))) * Ideal.ofBits .f32 0x33800000#32 := by
  subst hx
  rw [bits_inv24, ← div_coe _ _ (by norm_num), ← bits_24]
  unfold final
  after_reads_at

theorem final_usage (C : Fin 8 → Fin 65536 → Fin 1024) (hC : ∀ l j, countsOf V (ix2 l j) = BitVec.ofNat 32 (codeNat (C l) j)) (l : Fin 8) (j : Fin 1024) :
    final V (Proc.devRef .tc main_v14) (ix2 l j) = codeCount (C l) j * Ideal.ofBits .f32 0x37800000#32 := by
  have hs : ∀ x : Fin 1024, (FloatOps.sitofp FTy.f32 (countsOf V (ix2 l x)) : Ideal .f32) = ((codeNat (C l) x : ℝ) : EReal) := fun x =>
    (congrArg (fun b : BitVec 32 => ((b.toInt : ℝ) : EReal)) (hC l x)).trans (toInt_codeNat (C l) x)
  have hsum : ∑ x : Fin 1024, (FloatOps.sitofp FTy.f32 (countsOf V (ix2 l x)) : Ideal .f32) = ((65536 : ℝ) : EReal) :=
    (Finset.sum_congr rfl fun x _ => hs x).trans (sum_codeNat_real (C l))
  have hone : max (Ideal.ofBits .f32 0x3F800000#32) ((65536 : ℝ) : EReal) = ((65536 : ℝ) : EReal) := by
    rw [Ideal.ofBits_one_f32]
    exact max_eq_right (by exact_mod_cast (by norm_num : (1 : ℝ) ≤ 65536))
  unfold final
  after_reads_at
  refine (congrArg₂ Ideal.div (hs j) ((congrArg₂ max rfl hsum).trans hone)).trans ?_
  rw [div_coe _ _ (by norm_num), codeCount_eq, bits_inv16]

/-! ## The run -/

variable (m : (ℓ : Loc nD τ sig) → Buf (Elt Ideal) ℓ) (c : Dev nD)

/-- The buffers when the loop's test has said no. -/
abbrev Wend : Valuation τ sig (Elt Ideal) := atTest (Wk m 8 c)

theorem end_codes (l : Fin 8) (i : Fin 65536) : rowsOf (Wend m c) (ix2 l i) = BitVec.ofNat 32 (codeAt (xs m c) (ws m c) l.val i).val :=
  (congrFun (test_keeps (r := main_v3_4) (Wk m 8 c) (by decide)) (ix2 l i)).trans ((carried_at m c 8 le_rfl).codes l l.isLt i)

theorem end_counts (l : Fin 8) (j : Fin 1024) : countsOf (Wend m c) (ix2 l j) = BitVec.ofNat 32 (codeNat (codeAt (xs m c) (ws m c) l.val) j) :=
  (congrFun (test_keeps (r := main_v3_5) (Wk m 8 c) (by decide)) (ix2 l j)).trans ((carried_at m c 8 le_rfl).counts l l.isLt j)

theorem end_sum : sumOf (Wend m c) = sumAt (xs m c) (ws m c) 8 :=
  (test_keeps (r := main_v3_3) (Wk m 8 c) (by decide)).trans (carried_at m c 8 le_rfl).sum

theorem end_res : resOf (Wend m c) = resAt (xs m c) (ws m c) 8 :=
  (test_keeps (r := main_v3_2) (Wk m 8 c) (by decide)).trans (carried_at m c 8 le_rfl).res

theorem end_x : Wend m c (Proc.devRef .tc main_arg0) = xs m c :=
  (test_keeps (r := main_arg0) (Wk m 8 c) (by decide)).trans (args_at m c 8).1

theorem end_w : Wend m c (Proc.devRef .tc main_arg1) = ws m c :=
  (test_keeps (r := main_arg1) (Wk m 8 c) (by decide)).trans (args_at m c 8).2

/-- The reference ends with the quantization's codes, sum, residual, loss and shares, and its arguments unchanged. -/
theorem results (ρ : Dev nD → PrngReg) : θ_run defs (onTc (τ := τ) (main (F := Ideal))) ⟨m, fun _ => 0, ρ⟩ (fun r => ∀ c : Dev nD,
      r.2.mem ((c.tc : Thread nD τ).loc main_v4) = (fun j => BitVec.ofNat 32 (codeAt (xs m c) (ws m c) (j 1).val (j 0)))
      ∧ r.2.mem ((c.tc : Thread nD τ).loc main_v3_3) = sumAt (xs m c) (ws m c) 8
      ∧ r.2.mem ((c.tc : Thread nD τ).loc main_v3_2) = resAt (xs m c) (ws m c) 8
      ∧ r.2.mem ((c.tc : Thread nD τ).loc main_v8) = (fun _ => errAt (xs m c) (ws m c) * Ideal.ofBits .f32 0x33800000#32)
      ∧ r.2.mem ((c.tc : Thread nD τ).loc main_v14) = (fun j => codeCount (codeAt (xs m c) (ws m c) (j 0).val) (j 1) * Ideal.ofBits .f32 0x37800000#32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => by
    refine ⟨(h c main_v4 rfl).trans (funext fun j => ?_), (h c main_v3_3 rfl).trans ((final_keeps (Wend m c) (by decide)).trans (end_sum m c)),
      (h c main_v3_2 rfl).trans ((final_keeps (Wend m c) (by decide)).trans (end_res m c)), (h c main_v8 rfl).trans (funext fun j => ?_),
      (h c main_v14 rfl).trans (funext fun j => ?_), (h c main_arg0 rfl).trans ((final_keeps (Wend m c) (by decide)).trans (end_x m c)),
      (h c main_arg1 rfl).trans ((final_keeps (Wend m c) (by decide)).trans (end_w m c))⟩
    · obtain ⟨i, l, rfl⟩ := of_ix2 j
      exact (final_codes (Wend m c) i l).trans (end_codes m c l i)
    · refine (final_loss (Wend m c) (xs m c) (end_x m c) j).trans ?_
      rw [end_sum]
      rfl
    · obtain ⟨l, k, rfl⟩ := of_ix2 j
      exact final_usage (Wend m c) (fun l => codeAt (xs m c) (ws m c) l.val) (end_counts m c) l k) (run m ρ)

/-- The reference has no semaphores. -/
theorem no_sems (s : SemLoc sig) : False := by
  cases s with
  | reg i => exact i.elim0
  | dma i => exact i.elim0

/-- The reference's arguments end unchanged, and no counter is left above zero. -/
theorem frame (ρ : Dev nD → PrngReg) : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h c).2.2.2.2.2, funext fun g => (no_sems g.2).elim⟩) (results m ρ)

end Cert.ReferenceIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Run
public import proofs.«01_k».proof.Proof.RefResult
public import Idealize.ShloMosaic.Adequacy
public import Idealize.ShloMosaic.Init

@[expose] public section

noncomputable section

namespace Cert.Proof

open Idealize.ShloMosaic Idealize.SL.Sem Cert.Kernel

/-- Both programs end with the quantization of the same rows by the same words. -/
theorem algebraic : Cert.algebraic_KernelIdeal_ReferenceIdeal := by
  intro m g m' g' _ hm
  have hx : ∀ c, Cert.ReferenceIdeal.Val.xs m' c = Cert.KernelIdeal.Val.xs m c := fun c => (hm c).1
  have hw : ∀ c, Cert.ReferenceIdeal.Val.ws m' c = Cert.KernelIdeal.Val.ws m c := fun c => (hm c).2
  refine ⟨_, _, _, _, _, Cert.KernelIdeal.Val.results m g, (θ_run _ _ _).mono (fun r h c => ?_) (Cert.ReferenceIdeal.Val.results m' g')⟩
  obtain ⟨h1, h2, h3, h4, h5, h6, h7⟩ := h c
  rw [hx, hw] at h1 h2 h3 h4 h5
  exact ⟨h1, h2, h3, h4, h5, h6, h7⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Val.frame m ρ, trivial, algebraic⟩

end Cert.Proof

end
